-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x768 : Shape := ⟨2, ![128, 768]⟩
abbrev S768 : Shape := ⟨1, ![768]⟩
abbrev S64x768 : Shape := ⟨2, ![64, 768]⟩
abbrev S64 : Shape := ⟨1, ![64]⟩
abbrev S64x1536x768 : Shape := ⟨3, ![64, 1536, 768]⟩
abbrev S64x1536 : Shape := ⟨2, ![64, 1536]⟩
abbrev S64x768x768 : Shape := ⟨3, ![64, 768, 768]⟩
abbrev S1x768 : Shape := ⟨2, ![1, 768]⟩
abbrev S1x64 : Shape := ⟨2, ![1, 64]⟩
abbrev S64x1x1536 : Shape := ⟨3, ![64, 1, 1536]⟩
abbrev S64x1x768 : Shape := ⟨3, ![64, 1, 768]⟩
abbrev S1x1 : Shape := ⟨2, ![1, 1]⟩
abbrev S2x1536x768 : Shape := ⟨3, ![2, 1536, 768]⟩
abbrev S2x1x1536 : Shape := ⟨3, ![2, 1, 1536]⟩
abbrev S2x768x768 : Shape := ⟨3, ![2, 768, 768]⟩
abbrev S2x1x768 : Shape := ⟨3, ![2, 1, 768]⟩
abbrev S128x64 : Shape := ⟨2, ![128, 64]⟩
abbrev S1536x768 : Shape := ⟨2, ![1536, 768]⟩
abbrev S128 : Shape := ⟨1, ![128]⟩
abbrev S128x1 : Shape := ⟨2, ![128, 1]⟩
abbrev S1x1x64 : Shape := ⟨3, ![1, 1, 64]⟩
abbrev S1 : Shape := ⟨1, ![1]⟩
abbrev S1x1x1 : Shape := ⟨3, ![1, 1, 1]⟩
abbrev S128x1536 : Shape := ⟨2, ![128, 1536]⟩
abbrev S1x1536x768 : Shape := ⟨3, ![1, 1536, 768]⟩
abbrev S1x1x1536 : Shape := ⟨3, ![1, 1, 1536]⟩
abbrev S1x1536 : Shape := ⟨2, ![1, 1536]⟩
abbrev S1x768x768 : Shape := ⟨3, ![1, 768, 768]⟩
abbrev S768x768 : Shape := ⟨2, ![768, 768]⟩
abbrev S1x1x768 : Shape := ⟨3, ![1, 1, 768]⟩

abbrev nBuf : Space → Nat
  | .hbm => 14
  | .vmem => 17
  | .smem => 0
  | _ => 0

abbrev bufTy : (tb : Table) → Fin (tcTables nBuf tb) → BufTy
  | .hbm, ⟨0, _⟩ => ⟨S128x768, .f32⟩
  | .hbm, ⟨1, _⟩ => ⟨S768, .f32⟩
  | .hbm, ⟨2, _⟩ => ⟨S64x768, .f32⟩
  | .hbm, ⟨3, _⟩ => ⟨S64, .f32⟩
  | .hbm, ⟨4, _⟩ => ⟨S64x1536x768, .f32⟩
  | .hbm, ⟨5, _⟩ => ⟨S64x1536, .f32⟩
  | .hbm, ⟨6, _⟩ => ⟨S64x768x768, .f32⟩
  | .hbm, ⟨7, _⟩ => ⟨S64x768, .f32⟩
  | .hbm, ⟨8, _⟩ => ⟨S1x768, .f32⟩
  | .hbm, ⟨9, _⟩ => ⟨S1x64, .f32⟩
  | .hbm, ⟨10, _⟩ => ⟨S64x1x1536, .f32⟩
  | .hbm, ⟨11, _⟩ => ⟨S64x1x768, .f32⟩
  | .hbm, ⟨12, _⟩ => ⟨S128x768, .f32⟩
  | .hbm, ⟨13, _⟩ => ⟨S1x1, .f32⟩
  | .local _ .vmem, ⟨0, _⟩ => ⟨S128x768, .f32⟩
  | .local _ .vmem, ⟨1, _⟩ => ⟨S1x768, .f32⟩
  | .local _ .vmem, ⟨2, _⟩ => ⟨S64x768, .f32⟩
  | .local _ .vmem, ⟨3, _⟩ => ⟨S1x64, .f32⟩
  | .local _ .vmem, ⟨4, _⟩ => ⟨S2x1536x768, .f32⟩
  | .local _ .vmem, ⟨5, _⟩ => ⟨S2x1536x768, .f32⟩
  | .local _ .vmem, ⟨6, _⟩ => ⟨S2x1x1536, .f32⟩
  | .local _ .vmem, ⟨7, _⟩ => ⟨S2x1x1536, .f32⟩
  | .local _ .vmem, ⟨8, _⟩ => ⟨S2x768x768, .f32⟩
  | .local _ .vmem, ⟨9, _⟩ => ⟨S2x768x768, .f32⟩
  | .local _ .vmem, ⟨10, _⟩ => ⟨S2x1x768, .f32⟩
  | .local _ .vmem, ⟨11, _⟩ => ⟨S2x1x768, .f32⟩
  | .local _ .vmem, ⟨12, _⟩ => ⟨S128x768, .f32⟩
  | .local _ .vmem, ⟨13, _⟩ => ⟨S1x1, .f32⟩
  | .local _ .vmem, ⟨14, _⟩ => ⟨S128x768, .f32⟩
  | .local _ .vmem, ⟨15, _⟩ => ⟨S128x64, .f32⟩
  | .local _ .vmem, ⟨16, _⟩ => ⟨S1536x768, .bf16⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1536x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x768x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S128x768 : Shape := ⟨2, ![128, 768]⟩
abbrev S768 : Shape := ⟨1, ![768]⟩
abbrev S64x768 : Shape := ⟨2, ![64, 768]⟩
abbrev S64 : Shape := ⟨1, ![64]⟩
abbrev S64x1536x768 : Shape := ⟨3, ![64, 1536, 768]⟩
abbrev S64x1536 : Shape := ⟨2, ![64, 1536]⟩
abbrev S64x768x768 : Shape := ⟨3, ![64, 768, 768]⟩
abbrev S_ : Shape := ⟨0, ![]⟩
abbrev S128 : Shape := ⟨1, ![128]⟩
abbrev S128x1 : Shape := ⟨2, ![128, 1]⟩
abbrev S1x768 : Shape := ⟨2, ![1, 768]⟩
abbrev S768x64 : Shape := ⟨2, ![768, 64]⟩
abbrev S128x64 : Shape := ⟨2, ![128, 64]⟩
abbrev S1x64 : Shape := ⟨2, ![1, 64]⟩
abbrev S128x2 : Shape := ⟨2, ![128, 2]⟩
abbrev S128x2x1 : Shape := ⟨3, ![128, 2, 1]⟩
abbrev S1 : Shape := ⟨1, ![1]⟩
abbrev S1x1x1 : Shape := ⟨3, ![1, 1, 1]⟩
abbrev S128x2x1536x768 : Shape := ⟨4, ![128, 2, 1536, 768]⟩
abbrev S128x2x1536 : Shape := ⟨3, ![128, 2, 1536]⟩
abbrev S128x2x768 : Shape := ⟨3, ![128, 2, 768]⟩
abbrev S128x2x768x768 : Shape := ⟨4, ![128, 2, 768, 768]⟩
abbrev S1x1 : Shape := ⟨2, ![1, 1]⟩

abbrev nBuf : Space → Nat
  | .hbm => 273
  | .vmem => 0
  | .smem => 0
  | _ => 0

abbrev hbmTy0_0 (i : Nat) : BufTy := match i % 128 with
  | 0 => ⟨S128x768, .f32⟩
  | 1 => ⟨S768, .f32⟩
  | 2 => ⟨S64x768, .f32⟩
  | 3 => ⟨S64, .f32⟩
  | 4 => ⟨S64x1536x768, .f32⟩
  | 5 => ⟨S64x1536, .f32⟩
  | 6 => ⟨S64x768x768, .f32⟩
  | 7 => ⟨S64x768, .f32⟩
  | 8 => ⟨S128x768, .f32⟩
  | 9 => ⟨S_, .f32⟩
  | 10 => ⟨S128, .f32⟩
  | 11 => ⟨S128x1, .f32⟩
  | 12 => ⟨S_, .f32⟩
  | 13 => ⟨S128x1, .f32⟩
  | 14 => ⟨S128x1, .f32⟩
  | 15 => ⟨S_, .f32⟩
  | 16 => ⟨S128x1, .f32⟩
  | 17 => ⟨S128x1, .f32⟩
  | 18 => ⟨S128x1, .f32⟩
  | 19 => ⟨S128x768, .f32⟩
  | 20 => ⟨S128x768, .f32⟩
  | 21 => ⟨S1x768, .f32⟩
  | 22 => ⟨S128x768, .f32⟩
  | 23 => ⟨S128x768, .f32⟩
  | 24 => ⟨S768x64, .f32⟩
  | 25 => ⟨S128x64, .f32⟩
  | 26 => ⟨S1x64, .f32⟩
  | 27 => ⟨S128x64, .f32⟩
  | 28 => ⟨S128x64, .f32⟩
  | 29 => ⟨S_, .f32⟩
  | 30 => ⟨S128, .f32⟩
  | 31 => ⟨S_, .f32⟩
  | 32 => ⟨S128, .f32⟩
  | 33 => ⟨S128, .f32⟩
  | 34 => ⟨S128x1, .f32⟩
  | 35 => ⟨S128x64, .f32⟩
  | 36 => ⟨S128x64, .f32⟩
  | 37 => ⟨S128x64, .f32⟩
  | 38 => ⟨S_, .f32⟩
  | 39 => ⟨S128, .f32⟩
  | 40 => ⟨S128x1, .f32⟩
  | 41 => ⟨S128x64, .f32⟩
  | 42 => ⟨S128x64, .f32⟩
  | 43 => ⟨S128x2, .f32⟩
  | 44 => ⟨S128x2, .i32⟩
  | 45 => ⟨S_, .f32⟩
  | 46 => ⟨S128, .f32⟩
  | 47 => ⟨S128x1, .f32⟩
  | 48 => ⟨S128x2, .f32⟩
  | 49 => ⟨S128x2, .f32⟩
  | 50 => ⟨S_, .i32⟩
  | 51 => ⟨S128x2, .i32⟩
  | 52 => ⟨S128x2, .i1⟩
  | 53 => ⟨S_, .i32⟩
  | 54 => ⟨S128x2, .i32⟩
  | 55 => ⟨S128x2, .i32⟩
  | 56 => ⟨S128x2, .i32⟩
  | 57 => ⟨S128x2x1, .i32⟩
  | 58 => ⟨S1, .i32⟩
  | 59 => ⟨S_, .i32⟩
  | 60 => ⟨S128x2x1, .i32⟩
  | 61 => ⟨S128x2x1, .i1⟩
  | 62 => ⟨S1x1x1, .i32⟩
  | 63 => ⟨S128x2x1, .i32⟩
  | 64 => ⟨S128x2x1, .i1⟩
  | 65 => ⟨S128x2x1, .i1⟩
  | 66 => ⟨S_, .i1⟩
  | 67 => ⟨S128x2, .i1⟩
  | 68 => ⟨S128x2x1536x768, .f32⟩
  | 69 => ⟨S128x2x1536x768, .i1⟩
  | 70 => ⟨S_, .f32⟩
  | 71 => ⟨S128x2x1536x768, .f32⟩
  | 72 => ⟨S128x2x1536x768, .f32⟩
  | 73 => ⟨S_, .i32⟩
  | 74 => ⟨S128x2, .i32⟩
  | 75 => ⟨S128x2, .i1⟩
  | 76 => ⟨S_, .i32⟩
  | 77 => ⟨S128x2, .i32⟩
  | 78 => ⟨S128x2, .i32⟩
  | 79 => ⟨S128x2, .i32⟩
  | 80 => ⟨S128x2x1, .i32⟩
  | 81 => ⟨S1, .i32⟩
  | 82 => ⟨S_, .i32⟩
  | 83 => ⟨S128x2x1, .i32⟩
  | 84 => ⟨S128x2x1, .i1⟩
  | 85 => ⟨S1x1x1, .i32⟩
  | 86 => ⟨S128x2x1, .i32⟩
  | 87 => ⟨S128x2x1, .i1⟩
  | 88 => ⟨S128x2x1, .i1⟩
  | 89 => ⟨S_, .i1⟩
  | 90 => ⟨S128x2, .i1⟩
  | 91 => ⟨S128x2x1536, .f32⟩
  | 92 => ⟨S128x2x1536, .i1⟩
  | 93 => ⟨S_, .f32⟩
  | 94 => ⟨S128x2x1536, .f32⟩
  | 95 => ⟨S128x2x1536, .f32⟩
  | 96 => ⟨S128x2x1536, .f32⟩
  | 97 => ⟨S128x2x1536, .f32⟩
  | 98 => ⟨S128x2x768, .f32⟩
  | 99 => ⟨S128x2x768, .f32⟩
  | 100 => ⟨S_, .f32⟩
  | 101 => ⟨S_, .f32⟩
  | 102 => ⟨S_, .f32⟩
  | 103 => ⟨S128x2x768, .f32⟩
  | 104 => ⟨S128x2x768, .f32⟩
  | 105 => ⟨S_, .f32⟩
  | 106 => ⟨S128x2x768, .f32⟩
  | 107 => ⟨S128x2x768, .f32⟩
  | 108 => ⟨S_, .f32⟩
  | 109 => ⟨S_, .f32⟩
  | 110 => ⟨S_, .f32⟩
  | 111 => ⟨S128x2x768, .f32⟩
  | 112 => ⟨S128x2x768, .f32⟩
  | 113 => ⟨S_, .f32⟩
  | 114 => ⟨S128x2x768, .f32⟩
  | 115 => ⟨S128x2x768, .f32⟩
  | 116 => ⟨S_, .f32⟩
  | 117 => ⟨S128x2x768, .f32⟩
  | 118 => ⟨S128x2x768, .f32⟩
  | 119 => ⟨S128x2x768, .f32⟩
  | 120 => ⟨S128x2x768, .f32⟩
  | 121 => ⟨S_, .f32⟩
  | 122 => ⟨S128x2x768, .f32⟩
  | 123 => ⟨S128x2x768, .f32⟩
  | 124 => ⟨S_, .f32⟩
  | 125 => ⟨S128x2x768, .f32⟩
  | 126 => ⟨S128x2x768, .f32⟩
  | 127 => ⟨S128x2x768, .f32⟩
  | _ => ⟨S128x768, .f32⟩

abbrev hbmTy0_1 (i : Nat) : BufTy := match i % 128 with
  | 0 => ⟨S_, .f32⟩
  | 1 => ⟨S128x2x768, .f32⟩
  | 2 => ⟨S128x2x768, .f32⟩
  | 3 => ⟨S128x2x768, .f32⟩
  | 4 => ⟨S_, .i32⟩
  | 5 => ⟨S128x2, .i32⟩
  | 6 => ⟨S128x2, .i1⟩
  | 7 => ⟨S_, .i32⟩
  | 8 => ⟨S128x2, .i32⟩
  | 9 => ⟨S128x2, .i32⟩
  | 10 => ⟨S128x2, .i32⟩
  | 11 => ⟨S128x2x1, .i32⟩
  | 12 => ⟨S1, .i32⟩
  | 13 => ⟨S_, .i32⟩
  | 14 => ⟨S128x2x1, .i32⟩
  | 15 => ⟨S128x2x1, .i1⟩
  | 16 => ⟨S1x1x1, .i32⟩
  | 17 => ⟨S128x2x1, .i32⟩
  | 18 => ⟨S128x2x1, .i1⟩
  | 19 => ⟨S128x2x1, .i1⟩
  | 20 => ⟨S_, .i1⟩
  | 21 => ⟨S128x2, .i1⟩
  | 22 => ⟨S128x2x768x768, .f32⟩
  | 23 => ⟨S128x2x768x768, .i1⟩
  | 24 => ⟨S_, .f32⟩
  | 25 => ⟨S128x2x768x768, .f32⟩
  | 26 => ⟨S128x2x768x768, .f32⟩
  | 27 => ⟨S_, .i32⟩
  | 28 => ⟨S128x2, .i32⟩
  | 29 => ⟨S128x2, .i1⟩
  | 30 => ⟨S_, .i32⟩
  | 31 => ⟨S128x2, .i32⟩
  | 32 => ⟨S128x2, .i32⟩
  | 33 => ⟨S128x2, .i32⟩
  | 34 => ⟨S128x2x1, .i32⟩
  | 35 => ⟨S1, .i32⟩
  | 36 => ⟨S_, .i32⟩
  | 37 => ⟨S128x2x1, .i32⟩
  | 38 => ⟨S128x2x1, .i1⟩
  | 39 => ⟨S1x1x1, .i32⟩
  | 40 => ⟨S128x2x1, .i32⟩
  | 41 => ⟨S128x2x1, .i1⟩
  | 42 => ⟨S128x2x1, .i1⟩
  | 43 => ⟨S_, .i1⟩
  | 44 => ⟨S128x2, .i1⟩
  | 45 => ⟨S128x2x768, .f32⟩
  | 46 => ⟨S128x2x768, .i1⟩
  | 47 => ⟨S_, .f32⟩
  | 48 => ⟨S128x2x768, .f32⟩
  | 49 => ⟨S128x2x768, .f32⟩
  | 50 => ⟨S128x2x768, .f32⟩
  | 51 => ⟨S128x2x768, .f32⟩
  | 52 => ⟨S128x768, .f32⟩
  | 53 => ⟨S128x768, .f32⟩
  | 54 => ⟨S_, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S_, .f32⟩
  | 62 => ⟨S64, .f32⟩
  | 63 => ⟨S128x1, .i32⟩
  | 64 => ⟨S128, .i32⟩
  | 65 => ⟨S_, .i32⟩
  | 66 => ⟨S128, .i32⟩
  | 67 => ⟨S128, .i1⟩
  | 68 => ⟨S_, .i32⟩
  | 69 => ⟨S128, .i32⟩
  | 70 => ⟨S128, .i32⟩
  | 71 => ⟨S128, .i32⟩
  | 72 => ⟨S128x1, .i32⟩
  | 73 => ⟨S_, .f32⟩
  | 74 => ⟨S128, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S128x1, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S_, .f32⟩
  | 93 => ⟨S128, .f32⟩
  | 94 => ⟨S64, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S_, .f32⟩
  | 104 => ⟨S_, .f32⟩
  | 105 => ⟨S_, .f32⟩
  | 106 => ⟨S_, .f32⟩
  | 107 => ⟨S_, .f32⟩
  | 108 => ⟨S64, .f32⟩
  | 109 => ⟨S_, .f32⟩
  | 110 => ⟨S_, .f32⟩
  | 111 => ⟨S_, .f32⟩
  | 112 => ⟨S_, .f32⟩
  | 113 => ⟨S_, .i32⟩
  | 114 => ⟨S_, .f32⟩
  | 115 => ⟨S_, .f32⟩
  | 116 => ⟨S1, .f32⟩
  | 117 => ⟨S_, .f32⟩
  | 118 => ⟨S1, .f32⟩
  | 119 => ⟨S1, .f32⟩
  | 120 => ⟨S64, .f32⟩
  | 121 => ⟨S64, .f32⟩
  | 122 => ⟨S64, .f32⟩
  | 123 => ⟨S_, .f32⟩
  | 124 => ⟨S_, .f32⟩
  | 125 => ⟨S_, .f32⟩
  | 126 => ⟨S_, .f32⟩
  | 127 => ⟨S_, .f32⟩
  | _ => ⟨S128x768, .f32⟩

abbrev hbmTy0_2 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1x1, .f32⟩
  | _ => ⟨S128x768, .f32⟩

abbrev hbmTy (i : Nat) : BufTy := match i / 128 with
  | 0 => hbmTy0_0 i
  | 1 => hbmTy0_1 i
  | 2 => hbmTy0_2 i
  | _ => ⟨S128x768, .f32⟩

abbrev bufTy : (tb : Table) → Fin (tcTables nBuf tb) → BufTy
  | .hbm, ⟨i, _⟩ => hbmTy i
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_values : Ref sig .tc := ⟨.hbm, 43, rfl⟩
abbrev main_indices : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v33 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_6 : Ref sig .tc := ⟨.hbm, 100, rfl⟩
abbrev main_cst_7 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v39 : Ref sig .tc := ⟨.hbm, 107, rfl⟩
abbrev main_cst_8 : Ref sig .tc := ⟨.hbm, 108, rfl⟩
abbrev main_cst_9 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v40 : Ref sig .tc := ⟨.hbm, 115, rfl⟩
abbrev main_cst_10 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_cst_11 : Ref sig .tc := ⟨.hbm, 121, rfl⟩
abbrev main_v45 : Ref sig .tc := ⟨.hbm, 122, rfl⟩
abbrev main_v46 : Ref sig .tc := ⟨.hbm, 123, rfl⟩
abbrev main_cst_12 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_cst_13 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_cst : Ref sig .tc := ⟨.hbm, 152, rfl⟩
abbrev main_call4_v15 : Ref sig .tc := ⟨.hbm, 153, rfl⟩
abbrev main_v53 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩
abbrev main_cst_14 : Ref sig .tc := ⟨.hbm, 182, rfl⟩
abbrev main_v59 : Ref sig .tc := ⟨.hbm, 183, rfl⟩
abbrev main_cst_15 : Ref sig .tc := ⟨.hbm, 184, rfl⟩
abbrev main_v60 : Ref sig .tc := ⟨.hbm, 185, rfl⟩
abbrev main_v61 : Ref sig .tc := ⟨.hbm, 186, rfl⟩
abbrev main_cst_16 : Ref sig .tc := ⟨.hbm, 187, rfl⟩
abbrev main_v62 : Ref sig .tc := ⟨.hbm, 188, rfl⟩
abbrev main_cst_17 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_c : Ref sig .tc := ⟨.hbm, 193, rfl⟩
abbrev main_v66 : Ref sig .tc := ⟨.hbm, 194, rfl⟩
abbrev main_v67 : Ref sig .tc := ⟨.hbm, 195, rfl⟩
abbrev main_c_18 : Ref sig .tc := ⟨.hbm, 196, rfl⟩
abbrev main_v68 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_cst_19 : Ref sig .tc := ⟨.hbm, 201, rfl⟩
abbrev main_v72 : Ref sig .tc := ⟨.hbm, 202, rfl⟩
abbrev main_v73 : Ref sig .tc := ⟨.hbm, 203, rfl⟩
abbrev main_v74 : Ref sig .tc := ⟨.hbm, 204, rfl⟩
abbrev main_cst_20 : Ref sig .tc := ⟨.hbm, 205, rfl⟩
abbrev main_v75 : Ref sig .tc := ⟨.hbm, 206, rfl⟩
abbrev main_v76 : Ref sig .tc := ⟨.hbm, 207, rfl⟩
abbrev main_cst_21 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_c_22 : Ref sig .tc := ⟨.hbm, 212, rfl⟩
abbrev main_v80 : Ref sig .tc := ⟨.hbm, 213, rfl⟩
abbrev main_v81 : Ref sig .tc := ⟨.hbm, 214, rfl⟩
abbrev main_c_23 : Ref sig .tc := ⟨.hbm, 215, rfl⟩
abbrev main_v82 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_cst_24 : Ref sig .tc := ⟨.hbm, 220, rfl⟩
abbrev main_v86 : Ref sig .tc := ⟨.hbm, 221, rfl⟩
abbrev main_v87 : Ref sig .tc := ⟨.hbm, 222, rfl⟩
abbrev main_v88 : Ref sig .tc := ⟨.hbm, 223, rfl⟩
abbrev main_cst_25 : Ref sig .tc := ⟨.hbm, 224, rfl⟩
abbrev main_v89 : Ref sig .tc := ⟨.hbm, 225, rfl⟩
abbrev main_v90 : Ref sig .tc := ⟨.hbm, 226, rfl⟩
abbrev main_cst_26 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_cst_27 : Ref sig .tc := ⟨.hbm, 231, rfl⟩
abbrev main_v94 : Ref sig .tc := ⟨.hbm, 232, rfl⟩
abbrev main_cst_28 : Ref sig .tc := ⟨.hbm, 233, rfl⟩
abbrev main_v95 : Ref sig .tc := ⟨.hbm, 234, rfl⟩
abbrev main_cst_29 : Ref sig .tc := ⟨.hbm, 235, rfl⟩
abbrev main_v96 : Ref sig .tc := ⟨.hbm, 236, rfl⟩
abbrev main_cst_30 : Ref sig .tc := ⟨.hbm, 237, rfl⟩
abbrev main_v97 : Ref sig .tc := ⟨.hbm, 238, rfl⟩
abbrev main_cst_31 : Ref sig .tc := ⟨.hbm, 239, rfl⟩
abbrev main_v98 : Ref sig .tc := ⟨.hbm, 240, rfl⟩
abbrev main_c_32 : Ref sig .tc := ⟨.hbm, 241, rfl⟩
abbrev main_call6_call0_cst : Ref sig .tc := ⟨.hbm, 242, rfl⟩
abbrev main_call6_call0_v0 : Ref sig .tc := ⟨.hbm, 243, rfl⟩
abbrev main_call6_call0_v1 : Ref sig .tc := ⟨.hbm, 244, rfl⟩
abbrev main_call6_call0_cst_0 : Ref sig .tc := ⟨.hbm, 245, rfl⟩
abbrev main_call6_call0_v2 : Ref sig .tc := ⟨.hbm, 246, rfl⟩
abbrev main_call6_call0_v3 : Ref sig .tc := ⟨.hbm, 247, rfl⟩
abbrev main_call6_call0_v4 : Ref sig .tc := ⟨.hbm, 248, rfl⟩
abbrev main_call6_call0_v5 : Ref sig .tc := ⟨.hbm, 249, rfl⟩
abbrev main_call6_call0_v6 : Ref sig .tc := ⟨.hbm, 250, rfl⟩
abbrev main_call6_call0_v7 : Ref sig .tc := ⟨.hbm, 251, rfl⟩
abbrev main_call6_call0_cst_1 : Ref sig .tc := ⟨.hbm, 252, rfl⟩
abbrev main_call6_call0_v8 : Ref sig .tc := ⟨.hbm, 253, rfl⟩
abbrev main_call6_call0_cst_2 : Ref sig .tc := ⟨.hbm, 254, rfl⟩
abbrev main_call6_call0_v9 : Ref sig .tc := ⟨.hbm, 255, rfl⟩
abbrev main_call6_call0_v10 : Ref sig .tc := ⟨.hbm, 256, rfl⟩
abbrev main_call6_call0_cst_3 : Ref sig .tc := ⟨.hbm, 257, rfl⟩
abbrev main_call6_call0_v11 : Ref sig .tc := ⟨.hbm, 258, rfl⟩
abbrev main_call6_call0_cst_4 : Ref sig .tc := ⟨.hbm, 259, rfl⟩
abbrev main_call6_call0_call0_v0 : Ref sig .tc := ⟨.hbm, 260, rfl⟩
abbrev main_call6_v0 : Ref sig .tc := ⟨.hbm, 261, rfl⟩
abbrev main_v99 : Ref sig .tc := ⟨.hbm, 262, rfl⟩
abbrev main_cst_33 : Ref sig .tc := ⟨.hbm, 263, rfl⟩
abbrev main_v100 : Ref sig .tc := ⟨.hbm, 264, rfl⟩
abbrev main_v101 : Ref sig .tc := ⟨.hbm, 265, rfl⟩
abbrev main_v102 : Ref sig .tc := ⟨.hbm, 266, rfl⟩
abbrev main_cst_34 : Ref sig .tc := ⟨.hbm, 267, rfl⟩
abbrev main_v103 : Ref sig .tc := ⟨.hbm, 268, rfl⟩
abbrev main_v104 : Ref sig .tc := ⟨.hbm, 269, rfl⟩
abbrev main_cst_35 : Ref sig .tc := ⟨.hbm, 270, rfl⟩
abbrev main_v105 : Ref sig .tc := ⟨.hbm, 271, rfl⟩
abbrev main_v106 : Ref sig .tc := ⟨.hbm, 272, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.VecWindow

/-! # What one run of the kernel's body does

The body is run once per grid point. At point 0 it first fills three scratch buffers (the normalised rows, the combine
weights, the pairing matrix), stores the auxiliary loss and starts the output at the input rows; at every point it then
adds the contribution of two experts to the output. Both cases are stated here as triples that name the contents every
buffer ends with. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert number of each column of a 128 × 64 array. -/
def colNo : IVec S128x64 32 := iota .tc S128x64 32 [1] iota_S128x64_d1_w32

/-- The combine weights the first point stores: per row, the two chosen experts' probabilities over their sum. -/
def comb (x0 : Vec F S128x768 .f32) (x1 : Vec F S1x768 .f32) (x2 : Vec F S64x768 .f32) (x3 : Vec F S1x64 .f32) : FVec F S128x64 .f32 :=
  k0_pay14 (k0_pay5 x0 x1 x2 x3) colNo (k0_pay6 x0 x1 x2 x3) (k0_pay7 x0 x1 x2 x3) k0_pay8

/-- The auxiliary loss the first point stores. -/
def auxv (x0 : Vec F S128x768 .f32) (x1 : Vec F S1x768 .f32) (x2 : Vec F S64x768 .f32) (x3 : Vec F S1x64 .f32) : FVec F S1x1 .f32 :=
  k0_pay17 (k0_pay4 x0 x1 x2 x3) (k0_pay5 x0 x1 x2 x3)
    (k0_pay13 (k0_pay5 x0 x1 x2 x3) colNo (k0_pay7 x0 x1 x2 x3) k0_pay8)
    (k0_pay16 colNo (k0_pay7 x0 x1 x2 x3) k0_pay8)

/-- What a point makes of the output `o`: the sum of `o` and the two experts' weighted contributions. -/
def step (g : BitVec 32) (t : Vec F S128x768 .f32) (cw : Vec F S128x64 .f32) (s : Vec F S1536x768 .bf16)
    (x4 : Vec F S2x1536x768 .f32) (x5 : Vec F S2x1x1536 .f32) (x6 : Vec F S2x768x768 .f32) (x7 : Vec F S2x1x768 .f32)
    (o : Vec F S128x768 .f32) : FVec F S128x768 .f32 :=
  k0_pay1 g colNo
    (k0_pay22 g colNo (k0_pay19 (F := F))
      (k0_pay20 t (View.ld x4 (Rect.unit (s := S2x1536x768) ![0, 0, 0] S1x1536x768.size inb_S2x1536x768_S1x1536x768_0_0_0))
        (View.ld x5 (Rect.unit (s := S2x1x1536) ![0, 0, 0] S1x1x1536.size inb_S2x1x1536_S1x1x1536_0_0_0)) s)
      (k0_pay21 (View.ld x6 (Rect.unit (s := S2x768x768) ![0, 0, 0] S1x768x768.size inb_S2x768x768_S1x768x768_0_0_0)))
      (View.ld x7 (Rect.unit (s := S2x1x768) ![0, 0, 0] S1x1x768.size inb_S2x1x768_S1x1x768_0_0_0)) cw)
    (k0_pay23 t k0_pay18 (View.ld x4 (Rect.unit (s := S2x1536x768) ![1, 0, 0] S1x1536x768.size inb_S2x1536x768_S1x1536x768_1_0_0))
      (View.ld x5 (Rect.unit (s := S2x1x1536) ![1, 0, 0] S1x1x1536.size inb_S2x1x1536_S1x1x1536_1_0_0)))
    s (View.ld x6 (Rect.unit (s := S2x768x768) ![1, 0, 0] S1x768x768.size inb_S2x768x768_S1x768x768_1_0_0))
    (View.ld x7 (Rect.unit (s := S2x1x768) ![1, 0, 0] S1x1x768.size inb_S2x1x768_S1x1x768_1_0_0)) cw o

theorem hz : (![0, 0] : Fin 2 → Nat) = fun _ => 0 := by funext a; fin_cases a <;> rfl

set_option maxHeartbeats 2000000 in
/-- The body at a point that starts the run: whatever the outputs and the scratch held, the scratch ends at the
    normalised rows, the combine weights and the pairing matrix, the second output at the auxiliary loss, and the first
    at one step over the input rows. -/
theorem runA (c : Dev nD) (i : grid0.Coords) (arg1 : Memref sig .tc .vmem S128x768 .f32) (harg1 : arg1.IsWhole) (arg2 : Memref sig .tc .vmem S1x768 .f32) (harg2 : arg2.IsWhole) (arg3 : Memref sig .tc .vmem S64x768 .f32) (harg3 : arg3.IsWhole) (arg4 : Memref sig .tc .vmem S1x64 .f32) (harg4 : arg4.IsWhole) (arg5 : Memref sig .tc .vmem S2x1536x768 .f32) (harg5 : arg5.IsWhole) (arg6 : Memref sig .tc .vmem S2x1x1536 .f32) (harg6 : arg6.IsWhole) (arg7 : Memref sig .tc .vmem S2x768x768 .f32) (harg7 : arg7.IsWhole) (arg8 : Memref sig .tc .vmem S2x1x768 .f32) (harg8 : arg8.IsWhole) (arg9 : Memref sig .tc .vmem S128x768 .f32) (harg9 : arg9.IsWhole) (arg10 : Memref sig .tc .vmem S1x1 .f32) (harg10 : arg10.IsWhole) (arg11 : Memref sig .tc .vmem S128x768 .f32) (harg11 : arg11.IsWhole) (arg12 : Memref sig .tc .vmem S128x64 .f32) (harg12 : arg12.IsWhole) (arg13 : Memref sig .tc .vmem S1536x768 .bf16) (harg13 : arg13.IsWhole) (hc0 : k0_cond1 i = 1#1)
    (x0 : Vec F S128x768 .f32) (x1 : Vec F S1x768 .f32) (x2 : Vec F S64x768 .f32) (x3 : Vec F S1x64 .f32) (x4 : Vec F S2x1536x768 .f32) (x5 : Vec F S2x1x1536 .f32) (x6 : Vec F S2x768x768 .f32) (x7 : Vec F S2x1x768 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (step (BitVec.ofNat 32 (i 0).val) (k0_pay3 x0 x1) (comb x0 x1 x2 x3) (k0_pay15 (F := F)) x4 x5 x6 x7 x0) ∗ owns (c : Thread nD τ) arg10 fullShare (auxv x0 x1 x2 x3) ∗ owns (c : Thread nD τ) arg11 fullShare (k0_pay3 x0 x1) ∗ owns (c : Thread nD τ) arg12 fullShare (comb x0 x1 x2 x3) ∗ owns (c : Thread nD τ) arg13 fullShare (k0_pay15 (F := F))) -∗ K ⟨⟩))
      ⊢ wp frame (wpE (defs₀ (F := F)) Variants.none c none) E (cc0__moe_body i arg1 harg1 arg2 harg2 arg3 harg3 arg4 harg4 arg5 harg5 arg6 harg6 arg7 harg7 arg8 harg8 arg9 harg9 arg10 harg10 arg11 harg11 arg12 harg12 arg13 harg13) K := by
  simp only [cc0__moe_body_eq_skeleton]; unfold cc0__moe_body_skel
  simp only [k0_part4_eq_skeleton, k0_part1_eq_skeleton, k0_part2_eq_skeleton, k0_part3_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    try delta runA.sl.H8_1 runA.sl.HS0_1 runA.sl.HS1_1 runA.sl.HS2_1
    refine (View.read_writes_full _ _ _ _ _).trans ?_
    try delta runA.sl.r_11 runA.sl.r_10 runA.sl.r_9 runA.sl.r_8 runA.sl.r_7 runA.sl.r_6 runA.sl.v91 runA.sl.v83 runA.sl.v43 runA.sl.v30 runA.sl.v3 runA.sl.H8_1 runA.sl.HS0_1 runA.sl.HS1_1 runA.sl.HS2_1 runA.sl.r_5 runA.sl.r_4 runA.sl.r_3 runA.sl.r_2 runA.sl.r_1 runA.sl.r runA.sl.v130
    try simp only [View.readAt_eq_ld, hf0, hf1, hf2, hf3, hf4, hf5, hf6, hf7]
    repeat first | rw [View.readCov_full (s := S128x768)] | rw [View.readCov_full (s := S128x64)] | rw [View.readCov_full (s := S1536x768)] | rw [View.ld_unit_zero (S := S128x768) hz] | rw [View.ld_unit_zero (S := S1x768) hz] | rw [View.ld_unit_zero (S := S64x768) hz] | rw [View.ld_unit_zero (S := S1x64) hz]
    all_goals exact rfl
  isplitl [H9]
  · iexists _; isplitr
    swap; · iexact H9
    ipureintro
    try delta runA.sl.H8_1 runA.sl.HS0_1 runA.sl.HS1_1 runA.sl.HS2_1
    refine (View.read_writes_full _ _ _ _ _).trans ?_
    try delta runA.sl.r_11 runA.sl.r_10 runA.sl.r_9 runA.sl.r_8 runA.sl.r_7 runA.sl.r_6 runA.sl.v91 runA.sl.v83 runA.sl.v43 runA.sl.v30 runA.sl.v3 runA.sl.H8_1 runA.sl.HS0_1 runA.sl.HS1_1 runA.sl.HS2_1 runA.sl.r_5 runA.sl.r_4 runA.sl.r_3 runA.sl.r_2 runA.sl.r_1 runA.sl.r runA.sl.v130
    try simp only [View.readAt_eq_ld, hf0, hf1, hf2, hf3, hf4, hf5, hf6, hf7]
    repeat first | rw [View.readCov_full (s := S128x768)] | rw [View.readCov_full (s := S128x64)] | rw [View.readCov_full (s := S1536x768)] | rw [View.ld_unit_zero (S := S128x768) hz] | rw [View.ld_unit_zero (S := S1x768) hz] | rw [View.ld_unit_zero (S := S64x768) hz] | rw [View.ld_unit_zero (S := S1x64) hz]
    all_goals exact rfl
  isplitl [HS0]
  · iexists _; isplitr
    swap; · iexact HS0
    ipureintro
    try delta runA.sl.H8_1 runA.sl.HS0_1 runA.sl.HS1_1 runA.sl.HS2_1
    refine (View.read_writes_full _ _ _ _ _).trans ?_
    try delta runA.sl.r_11 runA.sl.r_10 runA.sl.r_9 runA.sl.r_8 runA.sl.r_7 runA.sl.r_6 runA.sl.v91 runA.sl.v83 runA.sl.v43 runA.sl.v30 runA.sl.v3 runA.sl.H8_1 runA.sl.HS0_1 runA.sl.HS1_1 runA.sl.HS2_1 runA.sl.r_5 runA.sl.r_4 runA.sl.r_3 runA.sl.r_2 runA.sl.r_1 runA.sl.r runA.sl.v130
    try simp only [View.readAt_eq_ld, hf0, hf1, hf2, hf3, hf4, hf5, hf6, hf7]
    repeat first | rw [View.readCov_full (s := S128x768)] | rw [View.readCov_full (s := S128x64)] | rw [View.readCov_full (s := S1536x768)] | rw [View.ld_unit_zero (S := S128x768) hz] | rw [View.ld_unit_zero (S := S1x768) hz] | rw [View.ld_unit_zero (S := S64x768) hz] | rw [View.ld_unit_zero (S := S1x64) hz]
    all_goals exact rfl
  isplitl [HS1]
  · iexists _; isplitr
    swap; · iexact HS1
    ipureintro
    try delta runA.sl.H8_1 runA.sl.HS0_1 runA.sl.HS1_1 runA.sl.HS2_1
    refine (View.read_writes_full _ _ _ _ _).trans ?_
    try delta runA.sl.r_11 runA.sl.r_10 runA.sl.r_9 runA.sl.r_8 runA.sl.r_7 runA.sl.r_6 runA.sl.v91 runA.sl.v83 runA.sl.v43 runA.sl.v30 runA.sl.v3 runA.sl.H8_1 runA.sl.HS0_1 runA.sl.HS1_1 runA.sl.HS2_1 runA.sl.r_5 runA.sl.r_4 runA.sl.r_3 runA.sl.r_2 runA.sl.r_1 runA.sl.r runA.sl.v130
    try simp only [View.readAt_eq_ld, hf0, hf1, hf2, hf3, hf4, hf5, hf6, hf7]
    repeat first | rw [View.readCov_full (s := S128x768)] | rw [View.readCov_full (s := S128x64)] | rw [View.readCov_full (s := S1536x768)] | rw [View.ld_unit_zero (S := S128x768) hz] | rw [View.ld_unit_zero (S := S1x768) hz] | rw [View.ld_unit_zero (S := S64x768) hz] | rw [View.ld_unit_zero (S := S1x64) hz]
    all_goals exact rfl
  iexists _; isplitr
  swap; · iexact HS2
  ipureintro
  try delta runA.sl.H8_1 runA.sl.HS0_1 runA.sl.HS1_1 runA.sl.HS2_1
  refine (View.read_writes_full _ _ _ _ _).trans ?_
  try delta runA.sl.r_11 runA.sl.r_10 runA.sl.r_9 runA.sl.r_8 runA.sl.r_7 runA.sl.r_6 runA.sl.v91 runA.sl.v83 runA.sl.v43 runA.sl.v30 runA.sl.v3 runA.sl.H8_1 runA.sl.HS0_1 runA.sl.HS1_1 runA.sl.HS2_1 runA.sl.r_5 runA.sl.r_4 runA.sl.r_3 runA.sl.r_2 runA.sl.r_1 runA.sl.r runA.sl.v130
  try simp only [View.readAt_eq_ld, hf0, hf1, hf2, hf3, hf4, hf5, hf6, hf7]
  repeat first | rw [View.readCov_full (s := S128x768)] | rw [View.readCov_full (s := S128x64)] | rw [View.readCov_full (s := S1536x768)] | rw [View.ld_unit_zero (S := S128x768) hz] | rw [View.ld_unit_zero (S := S1x768) hz] | rw [View.ld_unit_zero (S := S64x768) hz] | rw [View.ld_unit_zero (S := S1x64) hz]
  all_goals exact rfl

set_option maxHeartbeats 2000000 in
/-- The body at any other point: the scratch and the second output are left as they were, and the first output is one
    step further. -/
theorem runB (c : Dev nD) (i : grid0.Coords) (arg1 : Memref sig .tc .vmem S128x768 .f32) (harg1 : arg1.IsWhole) (arg2 : Memref sig .tc .vmem S1x768 .f32) (harg2 : arg2.IsWhole) (arg3 : Memref sig .tc .vmem S64x768 .f32) (harg3 : arg3.IsWhole) (arg4 : Memref sig .tc .vmem S1x64 .f32) (harg4 : arg4.IsWhole) (arg5 : Memref sig .tc .vmem S2x1536x768 .f32) (harg5 : arg5.IsWhole) (arg6 : Memref sig .tc .vmem S2x1x1536 .f32) (harg6 : arg6.IsWhole) (arg7 : Memref sig .tc .vmem S2x768x768 .f32) (harg7 : arg7.IsWhole) (arg8 : Memref sig .tc .vmem S2x1x768 .f32) (harg8 : arg8.IsWhole) (arg9 : Memref sig .tc .vmem S128x768 .f32) (harg9 : arg9.IsWhole) (arg10 : Memref sig .tc .vmem S1x1 .f32) (harg10 : arg10.IsWhole) (arg11 : Memref sig .tc .vmem S128x768 .f32) (harg11 : arg11.IsWhole) (arg12 : Memref sig .tc .vmem S128x64 .f32) (harg12 : arg12.IsWhole) (arg13 : Memref sig .tc .vmem S1536x768 .bf16) (harg13 : arg13.IsWhole) (hc0 : ¬k0_cond1 i = 1#1)
    (x0 : Vec F S128x768 .f32) (x1 : Vec F S1x768 .f32) (x2 : Vec F S64x768 .f32) (x3 : Vec F S1x64 .f32) (x4 : Vec F S2x1536x768 .f32) (x5 : Vec F S2x1x1536 .f32) (x6 : Vec F S2x768x768 .f32) (x7 : Vec F S2x1x768 .f32) (o : Vec F S128x768 .f32) (a : Vec F S1x1 .f32) (t : Vec F S128x768 .f32) (cw : Vec F S128x64 .f32) (s : Vec F S1536x768 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare o ∗ owns (c : Thread nD τ) arg10 fullShare a ∗ owns (c : Thread nD τ) arg11 fullShare t ∗ owns (c : Thread nD τ) arg12 fullShare cw ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (step (BitVec.ofNat 32 (i 0).val) t cw s x4 x5 x6 x7 o) ∗ owns (c : Thread nD τ) arg10 fullShare a ∗ owns (c : Thread nD τ) arg11 fullShare t ∗ owns (c : Thread nD τ) arg12 fullShare cw ∗ owns (c : Thread nD τ) arg13 fullShare s) -∗ K ⟨⟩))
      ⊢ wp frame (wpE (defs₀ (F := F)) Variants.none c none) E (cc0__moe_body i arg1 harg1 arg2 harg2 arg3 harg3 arg4 harg4 arg5 harg5 arg6 harg6 arg7 harg7 arg8 harg8 arg9 harg9 arg10 harg10 arg11 harg11 arg12 harg12 arg13 harg13) K := by
  simp only [cc0__moe_body_eq_skeleton]; unfold cc0__moe_body_skel
  simp only [k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hfs0; obtain rfl := harg12.eq_unread hfs1; obtain rfl := harg13.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    refine (View.read_writes_full _ _ _ _ _).trans ?_
    delta runB.sl.r_3 runB.sl.r_4 runB.sl.r_5 runB.sl.r_2 runB.sl.r_1 runB.sl.r runB.sl.v9
    simp only [View.readAt_eq_ld, hf0, hf1, hf2, hf3, hf4, hf5, hf6, hf7, hf8, hf9, hfs0, hfs1, hfs2]
    rw [View.ld_unit_zero (S := S128x768) hz, View.ld_unit_zero (S := S128x64) hz, View.ld_unit_zero (S := S1536x768) hz, View.ld_unit_zero (S := S128x768) hz]
    rfl
  isplitl [H9]
  · iexists _; isplitr; · ipureintro; exact harg10.read_unread _
    iexact H9
  isplitl [HS0]
  · iexists _; isplitr; · ipureintro; exact harg11.read_unread _
    iexact HS0
  isplitl [HS1]
  · iexists _; isplitr; · ipureintro; exact harg12.read_unread _
    iexact HS1
  iexists _; isplitr; · ipureintro; exact harg13.read_unread _
  iexact HS2

end Cert.KernelIdeal.Hand

end
-- ==== Proof.Top2.lean ====
module

public import Idealize.ShloMosaic.Lib.Pointwise
public import Idealize.ShloMosaic.Lib.IdealHost
public import Idealize.ShloMosaic.Lib.SortNet.Extract
public import Idealize.ShloMosaic.Lib.PlanTiles.StableSort

/-! # Choosing the two most likely of 64 experts

A row of 64 extended reals, the position of its first greatest entry, the position of the first greatest of the others;
how a minimum over masked position words and a stable sort by descending value both name them. -/

@[expose] public section

set_option maxRecDepth 16384

noncomputable section

namespace Cert.Top2

open Idealize.ShloMosaic

/-- Position `i` holds the greatest of the entries at admitted positions, and is the first such position. -/
def First (q : Fin 64 → EReal) (ok : Fin 64 → Prop) (i : Fin 64) : Prop :=
  ok i ∧ ∀ e, ok e → q e < q i ∨ (q e = q i ∧ i ≤ e)

/-- At most one position is the first greatest. -/
theorem First.unique {q : Fin 64 → EReal} {ok : Fin 64 → Prop} {i j : Fin 64} (hi : First q ok i) (hj : First q ok j) : i = j := by
  rcases hi.2 j hj.1 with h | ⟨h, h'⟩ <;> rcases hj.2 i hi.1 with g | ⟨g, g'⟩
  · exact absurd h (not_lt.mpr g.le)
  · exact absurd h (by rw [g]; exact lt_irrefl _)
  · exact absurd g (by rw [h]; exact lt_irrefl _)
  · exact le_antisymm h' g'

/-- The first greatest entry bounds every admitted entry. -/
theorem First.le {q : Fin 64 → EReal} {ok : Fin 64 → Prop} {i : Fin 64} (hi : First q ok i) {e : Fin 64} (he : ok e) : q e ≤ q i := by
  rcases hi.2 e he with h | ⟨h, -⟩
  · exact h.le
  · exact h.le

/-- Among finitely many positions, not none of them admitted, one is the first greatest. -/
theorem First.exists (q : Fin 64 → EReal) (ok : Fin 64 → Prop) (h : ∃ e, ok e) : ∃ i, First q ok i := by
  classical
  obtain ⟨a, ha, hmax⟩ := Finset.exists_max_image (Finset.univ.filter ok) q (by
    obtain ⟨e, he⟩ := h; exact ⟨e, by simpa using he⟩)
  obtain ⟨b, hb, hmin⟩ := Finset.exists_min_image (Finset.univ.filter fun e => ok e ∧ q e = q a) (fun e : Fin 64 => e)
    ⟨a, by simpa using ha⟩
  have hb' : ok b ∧ q b = q a := by simpa using hb
  refine ⟨b, hb'.1, fun e he => ?_⟩
  have hle : q e ≤ q a := hmax e (by simpa using he)
  rcases lt_or_eq_of_le hle with h1 | h1
  · exact Or.inl (by rw [hb'.2]; exact h1)
  · exact Or.inr ⟨by rw [hb'.2]; exact h1, hmin e (by simpa using ⟨he, h1⟩)⟩

/-- The maximum over the whole row, started from the least value, is the first greatest entry. -/
theorem fold_max_eq {q : Fin 64 → EReal} {i : Fin 64} (hi : First q (fun _ => True) i) : Finset.univ.fold max ⊥ q = q i := by
  refine le_antisymm ?_ ?_
  · rw [Finset.fold_max_le]; exact ⟨bot_le, fun e _ => hi.le trivial⟩
  · rw [Finset.le_fold_max]; exact Or.inr ⟨i, Finset.mem_univ _, le_rfl⟩

/-- A position's word, read as an integer. -/
theorem toInt_pos (e : Fin 64) : (BitVec.ofNat 32 e.val).toInt = (e.val : Int) := by
  have := e.isLt
  rw [BitVec.toInt_eq_toNat_of_lt] <;> simp [BitVec.toNat_ofNat] <;> omega

/-- Two positions' words agree exactly when the positions do. -/
theorem pos_inj {e i : Fin 64} : BitVec.ofNat 32 e.val = BitVec.ofNat 32 i.val ↔ e = i := by
  refine ⟨fun h => ?_, fun h => by rw [h]⟩
  have := congrArg BitVec.toInt h
  rw [toInt_pos, toInt_pos] at this
  exact Fin.ext (by exact_mod_cast this)

/-- The least position word among the positions that hold the row's maximum names the first of them. -/
theorem fold_min_eq {q : Fin 64 → EReal} {i : Fin 64} (hi : First q (fun _ => True) i) :
    Finset.univ.fold IntOp.minsi 2147483647#32
      (fun e : Fin 64 => Scalar.select (BitVec.ofBool (decide (q e = q i))) (BitVec.ofNat 32 e.val) 64#32) = BitVec.ofNat 32 i.val := by
  apply BitVec.eq_of_toInt_eq
  rw [← Finset.fold_hom (op' := (min : Int → Int → Int)) (m := BitVec.toInt) (fun x y => SortNet.toInt_minsi x y), toInt_pos]
  have hsel : ∀ e : Fin 64, (Scalar.select (BitVec.ofBool (decide (q e = q i))) (BitVec.ofNat 32 e.val) 64#32).toInt
      = if q e = q i then (e.val : Int) else 64 := by
    intro e
    by_cases h : q e = q i
    · simp only [h, decide_true, if_true]; exact toInt_pos e
    · simp only [h, decide_false, if_false]; rfl
  simp only [hsel]
  refine le_antisymm ?_ ?_
  · rw [Finset.fold_min_le]; exact Or.inr ⟨i, Finset.mem_univ _, by simp⟩
  · rw [Finset.le_fold_min]
    refine ⟨by have := i.isLt; simp; omega, fun e _ => ?_⟩
    split
    · next h =>
      rcases hi.2 e trivial with h1 | ⟨-, h1⟩
      · exact absurd h h1.ne
      · exact_mod_cast h1
    · have := i.isLt; omega

/-- A row with the entry at `i` replaced by minus one. -/
def rest (q : Fin 64 → EReal) (i : Fin 64) (e : Fin 64) : EReal := if e = i then -1 else q e

/-- Where no entry is negative, the first greatest entry of the row with entry `i` replaced by minus one is the first
    greatest of the entries other than `i`. -/
theorem First.of_rest {q : Fin 64 → EReal} (hq : ∀ e, 0 ≤ q e) {i j : Fin 64} (hj : First (rest q i) (fun _ => True) j) :
    First q (fun e => e ≠ i) j := by
  have hneg : (-1 : EReal) < 0 := by rw [← EReal.coe_one, ← EReal.coe_neg]; exact_mod_cast (by norm_num : (-1 : ℝ) < 0)
  have hji : j ≠ i := by
    intro h
    obtain ⟨e, he⟩ : ∃ e : Fin 64, e ≠ i := exists_ne i
    have := hj.le (e := e) trivial
    rw [rest, rest, if_neg he, if_pos h] at this
    exact absurd (hneg.trans_le ((hq e).trans this)) (lt_irrefl _)
  refine ⟨hji, fun e he => ?_⟩
  have := hj.2 e trivial
  rwa [rest, rest, if_neg he, if_neg hji] at this

/-- Of two positions that a stable sort by a descending natural key leaves in this order, the first has the greater key, or
    the same key and the lower original position. -/
theorem sortedFrom_lex {n : Nat} (G : Fin n → Nat) {a b : Fin n} (h : a < b) :
    PlanTiles.Lex G (· < ·) (sortedFrom (fun k k' => decide (G k' < G k)) a) (sortedFrom (fun k k' => decide (G k' < G k)) b) := by
  have hp : (sortPositions n fun k k' => decide (G k' < G k)).Pairwise (PlanTiles.Lex G (· < ·)) :=
    PlanTiles.pairwise_stableSort_lex G (· < ·) (List.finRange n) (List.pairwise_lt_finRange n)
  unfold sortedFrom
  exact List.pairwise_iff_get.mp hp _ _ (by rw [Fin.lt_def]; exact h)

/-- The stable sort of the 64 positions by descending value. -/
def srt (q : Fin 64 → EReal) : Fin 64 → Fin 64 := sortedFrom fun k k' => decide (q k' < q k)

/-- Of two sorted positions, the earlier one holds the greater value, or the same value at a lower position. -/
theorem srt_lex (q : Fin 64 → EReal) {a b : Fin 64} (h : a < b) :
    q (srt q b) < q (srt q a) ∨ (q (srt q b) = q (srt q a) ∧ srt q a < srt q b) := by
  classical
  let G : Fin 64 → Nat := fun e => (Finset.univ.filter fun x => q x < q e).card
  have hG : ∀ x y, q x < q y ↔ G x < G y := by
    intro x y
    constructor
    · intro hxy
      refine Finset.card_lt_card (Finset.ssubset_iff_of_subset (fun z hz => ?_) |>.mpr ⟨x, by simpa using hxy, by simp⟩)
      have : q z < q x := by simpa using hz
      simpa using this.trans hxy
    · intro hxy
      by_contra hn
      refine absurd (Finset.card_le_card (s := Finset.univ.filter fun z => q z < q y) (t := Finset.univ.filter fun z => q z < q x) fun z hz => ?_) (not_le.mpr hxy)
      have : q z < q y := by simpa using hz
      simpa using this.trans_le (not_lt.mp hn)
  have he : (fun k k' => decide (q k' < q k)) = fun k k' : Fin 64 => decide (G k' < G k) := by
    funext k k'; simp only [hG]
  have := sortedFrom_lex G h
  have hs : srt q = sortedFrom fun k k' => decide (G k' < G k) := by rw [srt, he]
  rw [hs]
  rcases this with h1 | ⟨h1, h2⟩
  · exact Or.inl ((hG _ _).mpr h1)
  · refine Or.inr ⟨?_, h2⟩
    refine le_antisymm ?_ ?_
    · exact not_lt.mp fun h3 => absurd ((hG _ _).mp h3) (by rw [h1]; exact lt_irrefl _)
    · exact not_lt.mp fun h3 => absurd ((hG _ _).mp h3) (by rw [h1]; exact lt_irrefl _)

/-- The sort's first position is the first greatest entry's. -/
theorem srt_zero (q : Fin 64 → EReal) : First q (fun _ => True) (srt q 0) := by
  refine ⟨trivial, fun e _ => ?_⟩
  obtain ⟨k, rfl⟩ := sortedFrom_surjective (fun k k' => decide (q k' < q k)) e
  rcases eq_or_ne k 0 with rfl | hk
  · exact Or.inr ⟨rfl, le_rfl⟩
  · rcases srt_lex q (Fin.pos_iff_ne_zero.mpr hk) with h | ⟨h, h'⟩
    · exact Or.inl h
    · exact Or.inr ⟨h, h'.le⟩

/-- The sort's second position is the first greatest of the other entries'. -/
theorem srt_one (q : Fin 64 → EReal) : First q (fun e => e ≠ srt q 0) (srt q 1) := by
  refine ⟨fun h => absurd (sortedFrom_injective _ h) (by decide), fun e he => ?_⟩
  obtain ⟨k, rfl⟩ := sortedFrom_surjective (fun k k' => decide (q k' < q k)) e
  have hk0 : k ≠ 0 := fun h => he (by rw [h]; rfl)
  rcases eq_or_ne k 1 with rfl | hk
  · exact Or.inr ⟨rfl, le_rfl⟩
  · have h1 : (1 : Fin 64) < k := by
      have a1 : k.val ≠ 0 := fun h => hk0 (Fin.ext h)
      have a2 : k.val ≠ 1 := fun h => hk (Fin.ext h)
      show 1 < k.val
      omega
    rcases srt_lex q h1 with h | ⟨h, h'⟩
    · exact Or.inl h
    · exact Or.inr ⟨h, h'.le⟩

end Cert.Top2

end
-- ==== Proof.Rows.lean ====
module

public import proofs.«01_k».proof.Proof.Top2

/-! # A row's probabilities, the two chosen weights, and the load-balance sum

Over the extended reals a softmax row is either a row of non-negative entries, not all zero, or the constant `⊥`. Both
cases give the same combine weights and the same load-balance sum however the two choices are named. -/

@[expose] public section

set_option maxRecDepth 16384

noncomputable section

namespace Cert.Top2

open Idealize.ShloMosaic

/-- The pattern of minus infinity is the least extended real. -/
theorem bits_negInf : Ideal.ofBits .f32 0xFF800000#32 = ⊥ := by simp [Ideal.ofBits, Ideal.ieee]

/-- The pattern of minus one. -/
theorem bits_negOne : Ideal.ofBits .f32 0xBF800000#32 = -1 := by
  rw [← EReal.coe_one, ← EReal.coe_neg]
  simp [Ideal.ofBits, Ideal.ieee, -EReal.coe_neg, -EReal.coe_one, -EReal.coe_mul]
  norm_num

/-- The pattern of two. -/
theorem bits_two : Ideal.ofBits .f32 0x40000000#32 = ((2 : ℝ) : EReal) := by
  simp [Ideal.ofBits, Ideal.ieee, -EReal.coe_mul]; norm_num

/-- The pattern of four. -/
theorem bits_four : Ideal.ofBits .f32 0x40800000#32 = ((4 : ℝ) : EReal) := by
  simp [Ideal.ofBits, Ideal.ieee, -EReal.coe_mul]; norm_num

/-- The pattern of 63. -/
theorem bits_63 : Ideal.ofBits .f32 0x427C0000#32 = ((63 : ℝ) : EReal) := by
  simp [Ideal.ofBits, Ideal.ieee, -EReal.coe_mul]; norm_num

/-- The pattern of 64. -/
theorem bits_64 : Ideal.ofBits .f32 0x42800000#32 = ((64 : ℝ) : EReal) := by
  simp [Ideal.ofBits, Ideal.ieee, -EReal.coe_mul]; norm_num

/-- The pattern of 128. -/
theorem bits_128 : Ideal.ofBits .f32 0x43000000#32 = ((128 : ℝ) : EReal) := by
  simp [Ideal.ofBits, Ideal.ieee, -EReal.coe_mul]; norm_num

/-- The pattern of 256. -/
theorem bits_256 : Ideal.ofBits .f32 0x43800000#32 = ((256 : ℝ) : EReal) := by
  simp [Ideal.ofBits, Ideal.ieee, -EReal.coe_mul]; norm_num

/-- A sum with a least term is least. -/
theorem sum_bot {ι : Type} (s : Finset ι) (f : ι → EReal) {i : ι} (hi : i ∈ s) (h : f i = ⊥) : ∑ x ∈ s, f x = ⊥ := by
  classical
  rw [← Finset.add_sum_erase s f hi, h, EReal.bot_add]

/-- An exponential is not negative. -/
theorem exp_nonneg (x : EReal) : 0 ≤ Ideal.exp x := by
  induction x using EReal.rec with
  | bot => exact le_rfl
  | top => exact le_top
  | coe r =>
    show (0 : EReal) ≤ ((Real.exp r : ℝ) : EReal)
    exact_mod_cast (Real.exp_pos r).le

/-- The exponential of what is not positive is at most one. -/
theorem exp_le_one {x : EReal} (h : x ≤ 0) : Ideal.exp x ≤ 1 := by
  induction x using EReal.rec with
  | bot => exact zero_le_one
  | top => exact absurd h (by simp)
  | coe r =>
    have : r ≤ 0 := by exact_mod_cast h
    show ((Real.exp r : ℝ) : EReal) ≤ 1
    exact_mod_cast Real.exp_le_one_iff.mpr this

/-- The softmax of a row of 64. -/
def sm (L : Fin 64 → EReal) (e : Fin 64) : EReal :=
  Ideal.div (Ideal.exp (L e - Finset.univ.fold max ⊥ L)) (∑ x, Ideal.exp (L x - Finset.univ.fold max ⊥ L))

/-- A row of non-negative entries, not all zero. -/
def Good (q : Fin 64 → EReal) : Prop := (∀ e, 0 ≤ q e) ∧ ∃ e, 0 < q e

/-- A softmax row is good, or is least everywhere. -/
theorem sm_cases (L : Fin 64 → EReal) : Good (sm L) ∨ ∀ e, sm L e = ⊥ := by
  have h1 : ∀ e, Ideal.exp (L e - Finset.univ.fold max ⊥ L) ≤ 1 := fun e => exp_le_one (by
    have hle : L e ≤ Finset.univ.fold max ⊥ L := by
      rw [Finset.le_fold_max]; exact Or.inr ⟨e, Finset.mem_univ _, le_rfl⟩
    generalize Finset.univ.fold max ⊥ L = M at hle
    generalize L e = l at hle
    induction M using EReal.rec with
    | bot => rw [le_bot_iff.mp hle]; exact bot_le
    | top => rw [EReal.sub_top]; exact bot_le
    | coe r =>
      calc l - r ≤ (r : EReal) - r := EReal.sub_le_sub hle le_rfl
        _ = 0 := EReal.sub_self (EReal.coe_ne_top r) (EReal.coe_ne_bot r))
  have h0 : ∀ e, 0 ≤ Ideal.exp (L e - Finset.univ.fold max ⊥ L) := fun e => exp_nonneg _
  unfold sm
  generalize hwe : (fun e => Ideal.exp (L e - Finset.univ.fold max ⊥ L)) = w
  have hwe' : ∀ e, Ideal.exp (L e - Finset.univ.fold max ⊥ L) = w e := fun e => by rw [← hwe]
  simp only [hwe'] at h0 h1 ⊢
  have hS : 0 ≤ ∑ x, w x := Finset.sum_nonneg fun e _ => h0 e
  rcases hS.eq_or_lt with hz | hpos
  · right
    intro e
    have hle : w e ≤ 0 := by rw [hz]; exact Finset.single_le_sum (fun x _ => h0 x) (Finset.mem_univ e)
    rw [Ideal.div, if_pos hz.symm, if_neg (not_lt.mpr hle)]
  · left
    have hfin : ∑ x, w x ≤ ((64 : ℝ) : EReal) := by
      calc ∑ x, w x ≤ ∑ x : Fin 64, (1 : EReal) := Finset.sum_le_sum fun e _ => h1 e
        _ = ((64 : ℝ) : EReal) := by simp; norm_cast
    obtain ⟨e, he⟩ : ∃ e, 0 < w e := by
      by_contra hn
      exact absurd (Finset.sum_nonpos fun e (_ : e ∈ Finset.univ) => not_lt.mp fun h => hn ⟨e, h⟩) (not_le.mpr hpos)
    have hne : ∑ x, w x ≠ 0 := hpos.ne'
    have htop : ∑ x, w x ≠ ⊤ := fun h => by rw [h] at hfin; exact absurd hfin (by simp)
    refine ⟨fun e => ?_, e, ?_⟩
    · show 0 ≤ Ideal.div (w e) (∑ x, w x)
      rw [Ideal.div, if_neg hne]
      exact mul_nonneg (h0 e) (EReal.inv_nonneg_of_nonneg hS)
    · show 0 < Ideal.div (w e) (∑ x, w x)
      rw [Ideal.div, if_neg hne]
      exact EReal.mul_pos he (EReal.inv_pos_of_pos_ne_top hpos htop)

/-- The indicator of a position. -/
def oh (i e : Fin 64) : EReal := if e = i then 1 else 0

/-- The combine weight the two choices `i`, `j` give expert `e`, from the row `q`. -/
def cw (q : Fin 64 → EReal) (i j e : Fin 64) : EReal :=
  Ideal.div (oh i e * q i + oh j e * rest q i j) (q i + rest q i j)

/-- The two choices of a good row are those of the stable sort. -/
theorem choices {q : Fin 64 → EReal} (hq : Good q) {i j : Fin 64} (hi : First q (fun _ => True) i)
    (hj : First (rest q i) (fun _ => True) j) : i = srt q 0 ∧ j = srt q 1 ∧ i ≠ j ∧ rest q i j = q j ∧ 0 < q i ∧ 0 ≤ q j := by
  have h0 := hi.unique (srt_zero q)
  have hj' := First.of_rest hq.1 hj
  have h1 : j = srt q 1 := by
    have := srt_one q
    rw [← h0] at this
    exact hj'.unique this
  obtain ⟨e, he⟩ := hq.2
  exact ⟨h0, h1, hj'.1.symm, if_neg hj'.1, he.trans_le (hi.le trivial), hq.1 j⟩

/-- THE COMBINE STEP: summing every expert's value under the combine weights is summing the two chosen experts' values
    under their normalised probabilities. -/
theorem combine (q : Fin 64 → EReal) (hq : Good q ∨ ∀ e, q e = ⊥) {i j : Fin 64} (hi : First q (fun _ => True) i)
    (hj : First (rest q i) (fun _ => True) j) (s : Fin 64 → EReal) :
    ∑ e, cw q i j e * s e = ∑ k : Fin 2, s (srt q (k.castLE (by decide))) *
      Ideal.div (q (srt q (k.castLE (by decide)))) (∑ l : Fin 2, q (srt q (l.castLE (by decide)))) := by
  rw [Fin.sum_univ_two, Fin.sum_univ_two]
  show _ = s (srt q 0) * Ideal.div (q (srt q 0)) (q (srt q 0) + q (srt q 1))
    + s (srt q 1) * Ideal.div (q (srt q 1)) (q (srt q 0) + q (srt q 1))
  rcases hq with hq | hq
  · obtain ⟨h0, h1, hij, hr, hpi, hpj⟩ := choices hq hi hj
    rw [← h0, ← h1]
    have hD : (0 : EReal) < q i + q j := by
      calc (0 : EReal) < q i := hpi
        _ = q i + 0 := (add_zero _).symm
        _ ≤ q i + q j := add_le_add le_rfl hpj
    rw [Finset.sum_eq_add i j hij]
    · simp only [cw, oh, hr, if_pos, if_neg hij, if_neg hij.symm, one_mul, zero_mul, add_zero, zero_add]
      rw [mul_comm, mul_comm (s j)]
    · intro e _ he
      simp only [cw, oh, if_neg he.1, if_neg he.2, zero_mul, add_zero, hr]
      rw [Ideal.div, if_neg hD.ne', zero_mul, zero_mul]
    · simp
    · simp
  · simp only [cw, hq, EReal.bot_add, Ideal.div]
    simp

/-- The first choices' and second choices' counts, whole numbers. -/
theorem count_eq (i : Fin 128 → Fin 64) (e : Fin 64) :
    ∑ t, oh (i t) e = (((Finset.univ.filter fun t => e = i t).card : ℝ) : EReal) := by
  unfold oh
  rw [Finset.sum_boole]
  norm_cast

/-- Four of the first count and two of the second are twice the sum of twice the first and the second. -/
theorem density_eq (a b : ℕ) :
    Ideal.ofBits .f32 0x40800000#32 * ((a : ℝ) : EReal) + Ideal.ofBits .f32 0x40000000#32 * ((b : ℝ) : EReal)
      = Ideal.ofBits .f32 0x40000000#32 * (Ideal.ofBits .f32 0x40000000#32 * ((a : ℝ) : EReal) + ((b : ℝ) : EReal)) := by
  rw [bits_four, bits_two]
  norm_cast
  ring

/-- The load-balance sum of the row means and the choices' densities. -/
def lb (p : Fin 128 → Fin 64 → EReal) (a b : Fin 64 → EReal) : EReal :=
  ∑ e, Ideal.div (∑ t, p t e) (Ideal.ofBits .f32 0x43000000#32)
    * Ideal.div (Ideal.ofBits .f32 0x40000000#32 * (Ideal.ofBits .f32 0x40000000#32 * a e + b e)) (Ideal.ofBits .f32 0x43800000#32)

/-- Where one row is least everywhere, the load-balance sum is least, whatever the choices. -/
theorem lb_bot (p : Fin 128 → Fin 64 → EReal) (i j : Fin 128 → Fin 64) (t0 : Fin 128) (h : ∀ e, p t0 e = ⊥) :
    lb p (fun e => ∑ t, oh (i t) e) (fun e => ∑ t, oh (j t) e) = ⊥ := by
  refine sum_bot _ _ (Finset.mem_univ (i t0)) ?_
  dsimp only
  rw [sum_bot _ _ (Finset.mem_univ t0) (h _), count_eq, count_eq, bits_two, bits_128, bits_256]
  have hc : 0 < (Finset.univ.filter fun t => i t0 = i t).card := Finset.card_pos.mpr ⟨t0, by simp⟩
  generalize (Finset.univ.filter fun t => i t0 = i t).card = a at hc
  generalize (Finset.univ.filter fun t => i t0 = j t).card = b
  have e1 : Ideal.div ⊥ ((128 : ℝ) : EReal) = ⊥ := by
    rw [Ideal.div, if_neg (by norm_cast), ← EReal.coe_inv, EReal.bot_mul_coe_of_pos (by norm_num)]
  have e2 : Ideal.div (((2 : ℝ) : EReal) * (((2 : ℝ) : EReal) * ((a : ℝ) : EReal) + ((b : ℝ) : EReal))) ((256 : ℝ) : EReal)
      = ((2 * (2 * (a : ℝ) + b) * (256 : ℝ)⁻¹ : ℝ) : EReal) := by
    rw [Ideal.div, if_neg (by norm_cast), ← EReal.coe_inv]
    norm_cast
  rw [e1, e2, EReal.bot_mul_coe_of_pos]
  have : (0 : ℝ) < a := by exact_mod_cast hc
  positivity

/-- THE LOAD-BALANCE STEP: the kernel's choices and the stable sort's give the same load-balance sum. -/
theorem lb_eq (p : Fin 128 → Fin 64 → EReal) (hp : ∀ t, Good (p t) ∨ ∀ e, p t e = ⊥) (i j : Fin 128 → Fin 64)
    (hi : ∀ t, First (p t) (fun _ => True) (i t)) (hj : ∀ t, First (rest (p t) (i t)) (fun _ => True) (j t)) :
    lb p (fun e => ∑ t, oh (i t) e) (fun e => ∑ t, oh (j t) e)
      = lb p (fun e => ∑ t, oh (srt (p t) 0) e) (fun e => ∑ t, oh (srt (p t) 1) e) := by
  by_cases hb : ∃ t, ∀ e, p t e = ⊥
  · obtain ⟨t0, h0⟩ := hb
    rw [lb_bot p i j t0 h0, lb_bot p (fun t => srt (p t) 0) (fun t => srt (p t) 1) t0 h0]
  · have hg : ∀ t, Good (p t) := fun t => (hp t).resolve_right fun h => hb ⟨t, h⟩
    have h0 : i = fun t => srt (p t) 0 := funext fun t => (choices (hg t) (hi t) (hj t)).1
    have h1 : j = fun t => srt (p t) 1 := funext fun t => (choices (hg t) (hi t) (hj t)).2.1
    rw [h0, h1]

end Cert.Top2

end
-- ==== Proof.Match.lean ====
module

public import proofs.«01_k».proof.Proof.Body
public import proofs.«01_k».proof.Proof.Rows
public import proofs.«01_k».proof.Proof.Gen.ReferenceIdeal.Run
public import Idealize.ShloMosaic.Lib.Pointwise
public import Idealize.ShloMosaic.Lib.Tactic.CleanTypes

/-! # The routing scores on both sides

The kernel's normalised rows, logits and probabilities are the reference's, entry by entry; from the probabilities the
kernel names its two choices per row and their weights. -/

@[expose] public section

set_option maxRecDepth 16384

noncomputable section

namespace Cert.Match

open Cert.KernelIdeal Cert.KernelIdeal.Gen Cert.KernelIdeal.Hand Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The reference's buffers before its first operation. -/
abbrev RV := Valuation Cert.ReferenceIdeal.τ Cert.ReferenceIdeal.sig (Elt Ideal)

/-- The reference's rows. -/
abbrev rx (V0 : RV) : FVec Ideal S128x768 .f32 := V0 (Proc.devRef .tc Cert.ReferenceIdeal.main_arg0)
/-- The reference's row scale. -/
abbrev rn (V0 : RV) : FVec Ideal ⟨1, ![768]⟩ .f32 := V0 (Proc.devRef .tc Cert.ReferenceIdeal.main_arg1)
/-- The reference's gate matrix. -/
abbrev rwg (V0 : RV) : FVec Ideal S64x768 .f32 := V0 (Proc.devRef .tc Cert.ReferenceIdeal.main_arg2)
/-- The reference's gate bias. -/
abbrev rbg (V0 : RV) : FVec Ideal ⟨1, ![64]⟩ .f32 := V0 (Proc.devRef .tc Cert.ReferenceIdeal.main_arg3)
/-- The reference's normalised rows. -/
abbrev v12 (V0 : RV) : FVec Ideal S128x768 .f32 := Cert.ReferenceIdeal.Value.res_main_v12 V0
/-- The reference's logits. -/
abbrev v17 (V0 : RV) : FVec Ideal S128x64 .f32 := Cert.ReferenceIdeal.Value.res_main_v17 V0
/-- The reference's shifted exponentials. -/
abbrev v24 (V0 : RV) : FVec Ideal S128x64 .f32 := Cert.ReferenceIdeal.Value.res_main_v24 V0
/-- The reference's probabilities. -/
abbrev v28 (V0 : RV) : FVec Ideal S128x64 .f32 := Cert.ReferenceIdeal.Value.res_main_v28 V0

/-- A row's logits. -/
def lg (V0 : RV) (t : Fin 128) (e : Fin 64) : EReal := v17 V0 (ix2 t e)

/-- The blocks of the kernel's first four operands hold the reference's first four arguments. -/
structure Same (x0 : Vec Ideal S128x768 .f32) (x1 : Vec Ideal S1x768 .f32) (x2 : Vec Ideal S64x768 .f32) (x3 : Vec Ideal S1x64 .f32) (V0 : RV) : Prop where
  h0 : ∀ t h, x0 (ix2 t h) = rx V0 (ix2 t h)
  h1 : ∀ h, x1 (ix2 0 h) = rn V0 (ix1 h)
  h2 : ∀ e h, x2 (ix2 e h) = rwg V0 (ix2 e h)
  h3 : ∀ e, x3 (ix2 0 e) = rbg V0 (ix1 e)

variable {x0 : Vec Ideal S128x768 .f32} {x1 : Vec Ideal S1x768 .f32} {x2 : Vec Ideal S64x768 .f32} {x3 : Vec Ideal S1x64 .f32} {V0 : RV}

/-- The normalised rows agree. -/
theorem pay2_apply (hs : Same x0 x1 x2 x3 V0) (t : Fin 128) (h : Fin 768) : k0_pay2 (F := Ideal) x0 x1 (ix2 t h) = v12 V0 (ix2 t h) := by
  unfold k0_pay2 v12 Cert.ReferenceIdeal.Value.res_main_v12
  clean_types
  pointwise
  simp only [hs.h0, hs.h1]

/-- The logits agree. -/
theorem pay4_apply (hs : Same x0 x1 x2 x3 V0) (t : Fin 128) (e : Fin 64) : k0_pay4 (F := Ideal) x0 x1 x2 x3 (ix2 t e) = lg V0 t e := by
  unfold lg k0_pay4 v17 Cert.ReferenceIdeal.Value.res_main_v17
  clean_types
  pointwise
  simp only [pay2_apply hs, hs.h2, hs.h3]

/-- The kernel's probabilities are the softmax of the logits. -/
theorem pay5_apply (hs : Same x0 x1 x2 x3 V0) (t : Fin 128) (e : Fin 64) : k0_pay5 (F := Ideal) x0 x1 x2 x3 (ix2 t e) = sm (lg V0 t) e := by
  unfold k0_pay5
  pointwise
  simp only [pay4_apply hs, bits_negInf]
  rfl

/-- The reference's probabilities are the softmax of the logits. -/
theorem v28_apply (V0 : RV) (t : Fin 128) (e : Fin 64) : v28 V0 (ix2 t e) = sm (lg V0 t) e := by
  have h24 : ∀ e, v24 V0 (ix2 t e) = Ideal.exp (lg V0 t e - Finset.univ.fold max ⊥ (lg V0 t)) := by
    intro e
    unfold v24 Cert.ReferenceIdeal.Value.res_main_v24
    clean_types
    pointwise
    rw [bits_negInf, max_eq_right bot_le]
    rfl
  unfold v28 Cert.ReferenceIdeal.Value.res_main_v28
  clean_types
  pointwise
  exact congrArg₂ Ideal.div (h24 e) (Finset.sum_congr rfl fun x _ => h24 x)

/-- The kernel's first choice of a row. -/
def fst (q : Fin 64 → EReal) : Fin 64 := (First.exists q (fun _ => True) ⟨0, trivial⟩).choose
/-- It is the first greatest entry. -/
theorem fst_spec (q : Fin 64 → EReal) : First q (fun _ => True) (fst q) := (First.exists q (fun _ => True) ⟨0, trivial⟩).choose_spec
/-- The kernel's second choice of a row. -/
def snd (q : Fin 64 → EReal) : Fin 64 := fst (rest q (fst q))
/-- It is the first greatest entry once the first choice is set to minus one. -/
theorem snd_spec (q : Fin 64 → EReal) : First (rest q (fst q)) (fun _ => True) (snd q) := fst_spec _

/-- The first greatest probability of each row. -/
theorem pay6_apply (hs : Same x0 x1 x2 x3 V0) (t : Fin 128) : k0_pay6 (F := Ideal) x0 x1 x2 x3 (ix2 t 0) = sm (lg V0 t) (fst (sm (lg V0 t))) := by
  unfold k0_pay6
  pointwise
  simp only [pay5_apply hs, bits_negInf]
  exact fold_max_eq (fst_spec _)

/-- The column numbers, as words. -/
theorem colNo_apply (t : Fin 128) (e : Fin 64) : colNo (ix2 t e) = BitVec.ofNat 32 e.val := by
  unfold colNo
  pointwise

/-- The mask of the greatest probabilities. -/
theorem pay7_apply (hs : Same x0 x1 x2 x3 V0) (t : Fin 128) (e : Fin 64) :
    k0_pay7 (F := Ideal) x0 x1 x2 x3 (ix2 t e) = BitVec.ofBool (decide (sm (lg V0 t) e = sm (lg V0 t) (fst (sm (lg V0 t))))) := by
  unfold k0_pay7
  pointwise
  simp only [pay5_apply hs, pay6_apply hs]

/-- The first choice's position word. -/
theorem pay9_apply (hs : Same x0 x1 x2 x3 V0) (t : Fin 128) :
    k0_pay9 colNo (k0_pay7 x0 x1 x2 x3) k0_pay8 (ix2 t 0) = BitVec.ofNat 32 (fst (sm (lg V0 t))).val := by
  unfold k0_pay9 k0_pay8
  pointwise
  simp only [colNo_apply, pay7_apply hs]
  exact fold_min_eq (fst_spec _)

/-- A one-hot entry. -/
theorem onehot (i e : Fin 64) : (FloatOps.sitofp .f32 (BitVec.setWidth 32 (IntOp.cmpi .eq (BitVec.ofNat 32 e.val) (BitVec.ofNat 32 i.val))) : Ideal .f32) = oh i e := by
  have h1 : (FloatOps.sitofp .f32 (BitVec.setWidth 32 (BitVec.ofBool true)) : Ideal .f32) = 1 := by
    show ((((BitVec.setWidth 32 (BitVec.ofBool true)).toInt : ℝ)) : EReal) = 1
    have : (BitVec.setWidth 32 (BitVec.ofBool true)).toInt = 1 := by decide
    rw [this]; norm_num
  have h0 : (FloatOps.sitofp .f32 (BitVec.setWidth 32 (BitVec.ofBool false)) : Ideal .f32) = 0 := by
    show ((((BitVec.setWidth 32 (BitVec.ofBool false)).toInt : ℝ)) : EReal) = 0
    have : (BitVec.setWidth 32 (BitVec.ofBool false)).toInt = 0 := by decide
    rw [this]; norm_num
  by_cases h : e = i
  · subst h
    simp only [oh, IntOp.cmpi, if_true, beq_self_eq_true, h1]
  · have := beq_eq_false_iff_ne.mpr (mt pos_inj.mp h)
    simp only [oh, IntOp.cmpi, if_neg h, this, h0]

/-- The first choice's one-hot row. -/
theorem pay10_apply (hs : Same x0 x1 x2 x3 V0) (t : Fin 128) (e : Fin 64) :
    k0_pay10 (F := Ideal) colNo (k0_pay7 x0 x1 x2 x3) k0_pay8 (ix2 t e) = oh (fst (sm (lg V0 t))) e := by
  unfold k0_pay10
  pointwise
  simp only [colNo_apply, pay9_apply hs]
  exact onehot _ _

/-- The probabilities with the first choice set to minus one. -/
theorem pay11_apply (hs : Same x0 x1 x2 x3 V0) (t : Fin 128) (e : Fin 64) :
    k0_pay11 (k0_pay5 x0 x1 x2 x3) colNo (k0_pay7 x0 x1 x2 x3) k0_pay8 (ix2 t e) = rest (sm (lg V0 t)) (fst (sm (lg V0 t))) e := by
  unfold k0_pay11
  pointwise
  simp only [colNo_apply, pay9_apply hs, pay5_apply hs, bits_negOne]
  generalize fst (sm (lg V0 t)) = i
  by_cases h : e = i
  · subst h
    simp only [rest, IntOp.cmpi, if_true, beq_self_eq_true]; rfl
  · have := beq_eq_false_iff_ne.mpr (mt pos_inj.mp h)
    simp only [rest, IntOp.cmpi, if_neg h, this]; rfl

/-- The second choice's entry. -/
theorem pay12_apply (hs : Same x0 x1 x2 x3 V0) (t : Fin 128) :
    k0_pay12 (k0_pay5 x0 x1 x2 x3) colNo (k0_pay7 x0 x1 x2 x3) k0_pay8 (ix2 t 0) = rest (sm (lg V0 t)) (fst (sm (lg V0 t))) (snd (sm (lg V0 t))) := by
  unfold k0_pay12
  pointwise
  simp only [pay11_apply hs, bits_negInf]
  exact fold_max_eq (snd_spec _)

/-- The second choice's one-hot row. -/
theorem pay13_apply (hs : Same x0 x1 x2 x3 V0) (t : Fin 128) (e : Fin 64) :
    k0_pay13 (k0_pay5 x0 x1 x2 x3) colNo (k0_pay7 x0 x1 x2 x3) k0_pay8 (ix2 t e) = oh (snd (sm (lg V0 t))) e := by
  unfold k0_pay13
  pointwise
  simp only [colNo_apply, pay11_apply hs, pay12_apply hs]
  have := fold_min_eq (snd_spec (sm (lg V0 t)))
  simp only [Scalar.select_ofBool, decide_eq_true_eq] at this
  rw [this]
  exact onehot _ _

/-- THE COMBINE WEIGHTS the first point stores. -/
theorem comb_apply (hs : Same x0 x1 x2 x3 V0) (t : Fin 128) (e : Fin 64) :
    comb x0 x1 x2 x3 (ix2 t e) = cw (sm (lg V0 t)) (fst (sm (lg V0 t))) (snd (sm (lg V0 t))) e := by
  unfold comb k0_pay14
  pointwise
  simp only [pay6_apply hs, pay12_apply hs, pay10_apply hs, pay13_apply hs]
  rfl

/-- The first choices' counts. -/
theorem pay16_apply (hs : Same x0 x1 x2 x3 V0) (e : Fin 64) :
    k0_pay16 (F := Ideal) colNo (k0_pay7 x0 x1 x2 x3) k0_pay8 (ix2 0 e) = ∑ t, oh (fst (sm (lg V0 t))) e := by
  unfold k0_pay16
  pointwise
  simp only [pay10_apply hs]

/-- The column sums of the logits. -/
def imp (V0 : RV) (e : Fin 64) : EReal := ∑ t, lg V0 t e
/-- Their mean. -/
def impMean (V0 : RV) : EReal := Ideal.div (∑ e, imp V0 e) (Ideal.ofBits .f32 0x42800000#32)
/-- Their deviation over their mean. -/
def cv (V0 : RV) : EReal :=
  Ideal.div (Ideal.sqrt (Ideal.div (∑ e, (imp V0 e - impMean V0) * (imp V0 e - impMean V0)) (Ideal.ofBits .f32 0x427C0000#32)))
    (impMean V0 + Ideal.ofBits .f32 0x358637BD#32)

/-- The auxiliary loss of two choices per row. -/
def aux (V0 : RV) (i j : Fin 128 → Fin 64) : EReal :=
  Ideal.ofBits .f32 0x3F23D70A#32 * lb (fun t => sm (lg V0 t)) (fun e => ∑ t, oh (i t) e) (fun e => ∑ t, oh (j t) e)
    + Ideal.ofBits .f32 0x3C23D70A#32 * (cv V0 * cv V0)

/-- The kernel's auxiliary loss is that of its two choices per row. -/
theorem auxv_apply (hs : Same x0 x1 x2 x3 V0) :
    auxv x0 x1 x2 x3 (ix2 0 0) = aux V0 (fun t => fst (sm (lg V0 t))) (fun t => snd (sm (lg V0 t))) := by
  unfold auxv k0_pay17
  pointwise
  simp only [pay4_apply hs, pay5_apply hs, pay13_apply hs, pay16_apply hs, Finset.univ_unique, Finset.sum_singleton]
  unfold aux lb
  simp only [count_eq, ← density_eq]
  rw [← mul_assoc]
  rfl

end Cert.Match

end
-- ==== Proof.RefTop.lean ====
module

public import proofs.«01_k».proof.Proof.Match
public import Idealize.ShloMosaic.Lib.ReduceAll

/-! # The reference's choices

The reference's two positions per row are those of the stable sort of the row's probabilities. -/

@[expose] public section

set_option maxRecDepth 16384

noncomputable section

namespace Cert.Match

open Cert.ReferenceIdeal Cert.ReferenceIdeal.Gen Cert.ReferenceIdeal.Value Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Moving along the second axis of a rank-2 index. -/
theorem along_one (t : Fin 128) (e k : Fin 64) : (ix2 t e : S128x64.Idx).along (1 : Fin 2) k = ix2 t k := by
  funext a
  fin_cases a
  · rfl
  · rfl

/-- The stable sort's positions of a row of a 128 × 64 array. -/
theorem topK_pos (x : FVec Ideal S128x64 .f32) (t : Fin 128) (k : Fin 64) :
    sortedFrom (fun a b : Fin 64 => (FloatOps.cmpfTotal .gt (x (ix2 t a)) (x (ix2 t b)) == 1#1)) k = srt (fun e => x (ix2 t e)) k := by
  unfold srt
  congr 1
  funext a b
  show (BitVec.ofBool (decide (x (ix2 t b) < x (ix2 t a))) == 1#1) = _
  cases decide (x (ix2 t b) < x (ix2 t a)) <;> rfl

/-- The index in the same row, at another column. -/
def rowAt (j : S128x64.Idx) (c : Fin 64) : S128x64.Idx := j.along (1 : Fin 2) c

/-- At a pair of coordinates. -/
theorem rowAt_ix2 (t : Fin 128) (e k : Fin 64) : rowAt (ix2 t e) k = ix2 t k := along_one t e k

/-- The sort of a 128 × 64 array along its second axis, with the positions it came from. -/
theorem sort_eq (x : FVec Ideal S128x64 .f32) (y : S128x64.Idx → BitVec 32) :
    Host.sort2 S128x64 1 (fun l r : EReal × BitVec 32 => FloatOps.cmpfTotal (F := Ideal) (φ := .f32) .gt l.1 r.1) x y
      = (fun j => x (rowAt j (sortedFrom (fun a b : Fin 64 => (FloatOps.cmpfTotal .gt (x (rowAt j a)) (x (rowAt j b)) == 1#1)) (j 1))),
         fun j => y (rowAt j (sortedFrom (fun a b : Fin 64 => (FloatOps.cmpfTotal .gt (x (rowAt j a)) (x (rowAt j b)) == 1#1)) (j 1)))) := by
  unfold Host.sort2
  rw [dif_pos (by decide)]
  rfl

/-- A row of that sort. -/
theorem sort_row (x : FVec Ideal S128x64 .f32) (y : S128x64.Idx → BitVec 32) (t : Fin 128) (k : Fin 64) :
    (Host.sort2 S128x64 1 (fun l r : EReal × BitVec 32 => FloatOps.cmpfTotal (F := Ideal) (φ := .f32) .gt l.1 r.1) x y).1 (ix2 t k)
        = x (ix2 t (srt (fun e => x (ix2 t e)) k))
      ∧ (Host.sort2 S128x64 1 (fun l r : EReal × BitVec 32 => FloatOps.cmpfTotal (F := Ideal) (φ := .f32) .gt l.1 r.1) x y).2 (ix2 t k)
        = y (ix2 t (srt (fun e => x (ix2 t e)) k)) := by
  rw [sort_eq]
  simp only [rowAt_ix2]
  rw [← topK_pos]
  exact ⟨rfl, rfl⟩

/-- The leading two columns of a 128 × 64 array. -/
theorem lead_two {α : Type} (x : S128x64.Idx → α) (t : Fin 128) (k : Fin 2) :
    extractStridedSlice S128x2 (fun _ => 0) x sliceFits_S128x64_S128x2 (ix2 t k) = x (ix2 t (k.castLE (by decide))) := by
  unfold extractStridedSlice
  congr 1
  funext a
  apply Fin.ext
  fin_cases a <;> simp <;> rfl

/-- A row's sorted positions, the first two of them. -/
def top (q : Fin 64 → EReal) (k : Fin 2) : Fin 64 := srt q (k.castLE (by decide))

/-- The values the reference keeps. -/
theorem values_apply (V0 : RV) (t : Fin 128) (k : Fin 2) :
    (res_main_values V0 : FVec Ideal S128x2 .f32) (ix2 t k) = sm (lg V0 t) (top (sm (lg V0 t)) k) := by
  have h : (fun e => v28 V0 (ix2 t e)) = sm (lg V0 t) := funext fun e => v28_apply V0 t e
  rw [top, ← h]
  unfold res_main_values Host.topK
  exact (lead_two _ t k).trans (sort_row (v28 V0) (fun i => iotaInDim S128x64 32 1 i) t _).1

/-- The words of the positions the reference keeps. -/
theorem indices_apply (V0 : RV) (t : Fin 128) (k : Fin 2) :
    (res_main_indices V0 : IVec S128x2 32) (ix2 t k) = BitVec.ofNat 32 (top (sm (lg V0 t)) k).val := by
  have h : (fun e => v28 V0 (ix2 t e)) = sm (lg V0 t) := funext fun e => v28_apply V0 t e
  rw [top, ← h]
  unfold res_main_indices Host.topK
  refine (lead_two _ t k).trans ((sort_row (v28 V0) (fun i => iotaInDim S128x64 32 1 i) t _).2.trans ?_)
  rfl

/-- A position's word is not negative, so wrapping it changes nothing. -/
theorem wrap_pos (e : Fin 64) : Scalar.select (IntOp.cmpi .slt (BitVec.ofNat 32 e.val) 0#32) (IntOp.addi (BitVec.ofNat 32 e.val) 64#32) (BitVec.ofNat 32 e.val)
    = BitVec.ofNat 32 e.val := by
  have h : IntOp.cmpi .slt (BitVec.ofNat 32 e.val) 0#32 = 0#1 := by
    show BitVec.ofBool (decide ((BitVec.ofNat 32 e.val).toInt < (0#32).toInt)) = 0#1
    rw [toInt_pos]
    have : ¬ ((e.val : Int) < (0#32 : BitVec 32).toInt) := by simp
    simp only [this]; rfl
  rw [h]; rfl

/-- A position's word lies between 0 and 63. -/
theorem inRange_pos (e : Fin 64) : IntOp.andi (IntOp.cmpi .sge (BitVec.ofNat 32 e.val) 0#32) (IntOp.cmpi .sle (BitVec.ofNat 32 e.val) 63#32) = 1#1 := by
  have h1 : IntOp.cmpi .sge (BitVec.ofNat 32 e.val) 0#32 = 1#1 := by
    show BitVec.ofBool (decide ((0#32).toInt ≤ (BitVec.ofNat 32 e.val).toInt)) = 1#1
    rw [toInt_pos]
    have : ((0#32 : BitVec 32).toInt ≤ (e.val : Int)) := by simp
    simp only [this]; rfl
  have h2 : IntOp.cmpi .sle (BitVec.ofNat 32 e.val) 63#32 = 1#1 := by
    show BitVec.ofBool (decide ((BitVec.ofNat 32 e.val).toInt ≤ (63#32).toInt)) = 1#1
    rw [toInt_pos]
    have : ((e.val : Int) ≤ (63#32 : BitVec 32).toInt) := by have := e.isLt; simp; omega
    simp only [this]; rfl
  rw [h1, h2]; rfl

/-- The index words the first gather reads. -/
theorem call0_apply (V0 : RV) (t : Fin 128) (k : Fin 2) :
    (res_main_call0_v5 V0 : IVec S128x2x1 32) (ix3 t k 0) = BitVec.ofNat 32 (top (sm (lg V0 t)) k).val := by
  unfold res_main_call0_v5
  clean_types
  pointwise
  have := indices_apply V0 t k
  simp only [this]
  exact wrap_pos _

/-- The four gathers read the same index words. -/
theorem calls_eq (V0 : RV) : (res_main_call1_v5 V0 : IVec S128x2x1 32) = res_main_call0_v5 V0 ∧ (res_main_call4_v5 V0 : IVec S128x2x1 32) = res_main_call0_v5 V0
    ∧ (res_main_call5_v5 V0 : IVec S128x2x1 32) = res_main_call0_v5 V0 := ⟨rfl, rfl, rfl⟩

/-- The mask over the index words is set everywhere. -/
theorem mask_one (V0 : RV) (t : Fin 128) (k : Fin 2) : Finset.fold IntOp.andi (1#1)
      (fun x : Fin 1 => IntOp.andi (IntOp.cmpi CmpIPredicate.sge ((res_main_call0_v5 V0 : IVec S128x2x1 32) (ix3 t k x)) 0#32)
        (IntOp.cmpi CmpIPredicate.sle ((res_main_call0_v5 V0 : IVec S128x2x1 32) (ix3 t k x)) 63#32)) Finset.univ = 1#1 := by
  rw [Finset.univ_unique, Finset.fold_singleton]
  have : (res_main_call0_v5 V0 : IVec S128x2x1 32) (ix3 t k default) = _ := call0_apply V0 t k
  rw [this, inRange_pos]
  rfl

end Cert.Match

end
-- ==== Proof.RefOut.lean ====
module

public import proofs.«01_k».proof.Proof.RefTop
public import Idealize.ShloMosaic.Lib.ReduceAll
public import Idealize.ShloMosaic.Lib.Routing.OpsPair

/-! # The reference's first result

What the reference computes for one row and one column: the two chosen experts' values under their normalised
probabilities, and the row's own entry. -/

@[expose] public section

set_option maxRecDepth 16384

noncomputable section

namespace Cert.Match

open Cert.ReferenceIdeal Cert.ReferenceIdeal.Gen Cert.ReferenceIdeal.Value Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A gather of slabs along the first axis reads the slab its index word names. -/
theorem gather_slab {R H : Nat} (d : GatherDims ⟨3, ![64, R, H]⟩ S128x2x1 ⟨4, ![128, 2, R, H]⟩) (h1 : d.offsetDims = [2, 3])
    (h2 : d.collapsedSliceDims = [0]) (h3 : d.operandBatchingDims = []) (h4 : d.startIndicesBatchingDims = []) (h5 : d.startIndexMap = [0])
    (h6 : d.indexVectorDim = 2) (h7 : d.sliceSizes = ![1, R, H])
    (x : FVec Ideal ⟨3, ![64, R, H]⟩ .f32) (idx : IVec S128x2x1 32) (t : Fin 128) (k : Fin 2) (r : Fin R) (h : Fin H)
    (e : Fin 64) (he : idx (ix3 t k 0) = BitVec.ofNat 32 e.val) : Host.gather d x idx (ix4 t k r h) = x (ix3 e r h) := by
  obtain ⟨od, cs, ob, sb, sim, iv, ss, wf⟩ := d
  dsimp only at h1 h2 h3 h4 h5 h6 h7
  subst h1 h2 h3 h4 h5 h6 h7
  have hi : GatherDims.siIdx (⟨[2, 3], [0], [], [], [0], 2, ![1, R, H], wf⟩ : GatherDims ⟨3, ![64, R, H]⟩ S128x2x1 ⟨4, ![128, 2, R, H]⟩)
      (ix4 t k r h) ⟨0, Nat.zero_lt_one⟩ = ix3 t k 0 := by
    funext b
    fin_cases b <;> rfl
  show x _ = x _
  congr 1
  funext a
  apply Fin.ext
  fin_cases a
  · show min (idx (GatherDims.siIdx (⟨[2, 3], [0], [], [], [0], 2, ![1, R, H], wf⟩ : GatherDims ⟨3, ![64, R, H]⟩ S128x2x1 ⟨4, ![128, 2, R, H]⟩)
      (ix4 t k r h) ⟨0, Nat.zero_lt_one⟩)).toInt.toNat 63 + 0 + 0 = e.val
    rw [hi, he, toInt_pos]
    have := e.isLt
    simp only [Int.toNat_natCast]
    omega
  · show 0 + 0 + r.val = r.val
    omega
  · show 0 + 0 + h.val = h.val
    omega

/-- A gather of rows along the first axis reads the row its index word names. -/
theorem gather_row {R : Nat} (d : GatherDims ⟨2, ![64, R]⟩ S128x2x1 ⟨3, ![128, 2, R]⟩) (h1 : d.offsetDims = [2])
    (h2 : d.collapsedSliceDims = [0]) (h3 : d.operandBatchingDims = []) (h4 : d.startIndicesBatchingDims = []) (h5 : d.startIndexMap = [0])
    (h6 : d.indexVectorDim = 2) (h7 : d.sliceSizes = ![1, R])
    (x : FVec Ideal ⟨2, ![64, R]⟩ .f32) (idx : IVec S128x2x1 32) (t : Fin 128) (k : Fin 2) (r : Fin R)
    (e : Fin 64) (he : idx (ix3 t k 0) = BitVec.ofNat 32 e.val) : Host.gather d x idx (ix3 t k r) = x (ix2 e r) := by
  obtain ⟨od, cs, ob, sb, sim, iv, ss, wf⟩ := d
  dsimp only at h1 h2 h3 h4 h5 h6 h7
  subst h1 h2 h3 h4 h5 h6 h7
  have hi : GatherDims.siIdx (⟨[2], [0], [], [], [0], 2, ![1, R], wf⟩ : GatherDims ⟨2, ![64, R]⟩ S128x2x1 ⟨3, ![128, 2, R]⟩)
      (ix3 t k r) ⟨0, Nat.zero_lt_one⟩ = ix3 t k 0 := by
    funext b
    fin_cases b <;> rfl
  show x _ = x _
  congr 1
  funext a
  apply Fin.ext
  fin_cases a
  · show min (idx (GatherDims.siIdx (⟨[2], [0], [], [], [0], 2, ![1, R], wf⟩ : GatherDims ⟨2, ![64, R]⟩ S128x2x1 ⟨3, ![128, 2, R]⟩)
      (ix3 t k r) ⟨0, Nat.zero_lt_one⟩)).toInt.toNat 63 + 0 + 0 = e.val
    rw [hi, he, toInt_pos]
    have := e.isLt
    simp only [Int.toNat_natCast]
    omega
  · show 0 + 0 + r.val = r.val
    omega

/-- The first layer's matrices. -/
abbrev rw1 (V0 : RV) : FVec Ideal S64x1536x768 .f32 := V0 (Proc.devRef .tc main_arg4)
/-- The first layer's biases. -/
abbrev rb1 (V0 : RV) : FVec Ideal S64x1536 .f32 := V0 (Proc.devRef .tc main_arg5)
/-- The second layer's matrices. -/
abbrev rw2 (V0 : RV) : FVec Ideal S64x768x768 .f32 := V0 (Proc.devRef .tc main_arg6)
/-- The second layer's biases. -/
abbrev rb2 (V0 : RV) : FVec Ideal S64x768 .f32 := V0 (Proc.devRef .tc main_arg7)

/-- An expert's first layer on a row. -/
def lin (V0 : RV) (t : Fin 128) (e : Fin 64) (r : Fin 1536) : EReal := ∑ h, rw1 V0 (ix3 e r h) * v12 V0 (ix2 t h) + rb1 V0 (ix2 e r)
/-- The clipped value. -/
def clip (v : EReal) : EReal := min (Ideal.ofBits .f32 0x40E00000#32) (max (Ideal.ofBits .f32 0xC0E00000#32) v)
/-- The gated value of a clipped entry. -/
def gate (v : EReal) : EReal := v * Ideal.logistic (v * Ideal.ofBits .f32 0x3FD9DB23#32)
/-- The activation: the gated even entry and the odd entry plus one. -/
def act (V0 : RV) (t : Fin 128) (e : Fin 64) (c : Fin 768) : EReal :=
  gate (clip (lin V0 t e ⟨2 * c.val, by omega⟩)) + (clip (lin V0 t e ⟨1 + 2 * c.val, by omega⟩) + 1)
/-- An expert's value on a row. -/
def expert (V0 : RV) (t : Fin 128) (h : Fin 768) (e : Fin 64) : EReal :=
  ∑ c, rw2 V0 (ix3 e h c) * act V0 t e c + rb2 V0 (ix2 e h)

/-- The reference's first layer, at a kept position. -/
theorem v36_apply (V0 : RV) (t : Fin 128) (k : Fin 2) (r : Fin 1536) :
    (res_main_v36 V0 : FVec Ideal S128x2x1536 .f32) (ix3 t k r) = lin V0 t (top (sm (lg V0 t)) k) r := by
  unfold res_main_v36
  rw [(calls_eq V0).1]
  clean_types
  pointwise
  have hm := mask_one V0 t k
  have hc := call0_apply V0 t k
  rw [hm]
  have gw := fun r h => gather_slab gather_S64x1536x768_S128x2x1_S128x2x1536x768_23_0_n_n_0_2_11536768 rfl rfl rfl rfl rfl rfl rfl (rw1 V0) (res_main_call0_v5 V0) t k r h _ hc
  have gb := fun r => gather_row gather_S64x1536_S128x2x1_S128x2x1536_2_0_n_n_0_2_11536 rfl rfl rfl rfl rfl rfl rfl (rb1 V0) (res_main_call0_v5 V0) t k r _ hc
  simp only [gw, gb]
  rfl

/-- The reference's clipped even entries. -/
theorem v39_apply (V0 : RV) (t : Fin 128) (k : Fin 2) (c : Fin 768) :
    (res_main_v39 V0 : FVec Ideal S128x2x768 .f32) (ix3 t k c) = clip (lin V0 t (top (sm (lg V0 t)) k) ⟨2 * c.val, by omega⟩) := by
  unfold res_main_v39
  clean_types
  pointwise
  have := v36_apply V0 t k ⟨2 * c.val, by omega⟩
  rw [this]
  rfl

/-- The reference's first result, of its arguments. -/
def refOut (V0 : RV) : FVec Ideal S128x768 .f32 :=
  addf (Host.dotGeneral dot_S128x2x768_S128x2_S128x768_1_1_2_n_0_0 none (addf (Host.dotGeneral dot_S128x2x768x768_S128x2x768_S128x2x768_3_2_2_n_01_01 none (select (broadcastInDim S128x2x768x768 ![0, 1] bcast_S128x2_S128x2x768x768_0_1 (Host.reduce IntOp.andi (andi (cmpi .sge (res_main_call4_v5 V0) (broadcastInDim S128x2x1 ![] bcast_S_S128x2x1 (constantI S_ 32 0#32))) (cmpi .sle (res_main_call4_v5 V0) (broadcastInDim S128x2x1 ![0, 1, 2] bcast_S1x1x1_S128x2x1_0_1_2 (broadcastInDim S1x1x1 ![2] bcast_S1_S1x1x1_2 (constantI S1 32 63#32))))) (constantI S_ 1 1#1) reducesTo_S128x2x1_S128x2_d2 h_S_)) (Host.gather gather_S64x768x768_S128x2x1_S128x2x768x768_23_0_n_n_0_2_1768768 (V0 (Proc.devRef .tc main_arg6)) (res_main_call4_v5 V0)) (broadcastInDim S128x2x768x768 ![] bcast_S_S128x2x768x768 (constant S_ .f32 0x7FC00000#32))) (addf (mulf (res_main_v39 V0) (Host.divf (broadcastInDim S128x2x768 ![] bcast_S_S128x2x768 (constant S_ .f32 0x3F800000#32)) (addf (broadcastInDim S128x2x768 ![] bcast_S_S128x2x768 (constant S_ .f32 0x3F800000#32)) (Host.exp (Host.negf (mulf (res_main_v39 V0) (broadcastInDim S128x2x768 ![] bcast_S_S128x2x768 (constant S_ .f32 0x3FD9DB23#32)))))))) (addf (minimumf (broadcastInDim S128x2x768 ![] bcast_S_S128x2x768 (id (constant S_ .f32 0x40E00000#32))) (maximumf (broadcastInDim S128x2x768 ![] bcast_S_S128x2x768 (id (constant S_ .f32 0xC0E00000#32))) (Host.slice S128x2x768 ![0, 0, 1] ![1, 1, 2] (res_main_v36 V0) slicesBy_S128x2x1536_S128x2x768_0s1_0s1_1s2))) (broadcastInDim S128x2x768 ![] bcast_S_S128x2x768 (constant S_ .f32 0x3F800000#32))))) (select (broadcastInDim S128x2x768 ![0, 1] bcast_S128x2_S128x2x768_0_1 (Host.reduce IntOp.andi (andi (cmpi .sge (res_main_call5_v5 V0) (broadcastInDim S128x2x1 ![] bcast_S_S128x2x1 (constantI S_ 32 0#32))) (cmpi .sle (res_main_call5_v5 V0) (broadcastInDim S128x2x1 ![0, 1, 2] bcast_S1x1x1_S128x2x1_0_1_2 (broadcastInDim S1x1x1 ![2] bcast_S1_S1x1x1_2 (constantI S1 32 63#32))))) (constantI S_ 1 1#1) reducesTo_S128x2x1_S128x2_d2 h_S_)) (Host.gather gather_S64x768_S128x2x1_S128x2x768_2_0_n_n_0_2_1768 (V0 (Proc.devRef .tc main_arg7)) (res_main_call5_v5 V0)) (broadcastInDim S128x2x768 ![] bcast_S_S128x2x768 (constant S_ .f32 0x7FC00000#32)))) (Host.divf (res_main_values V0) (broadcastInDim S128x2 ![0, 1] bcast_S128x1_S128x2_0_1 (broadcastInDim S128x1 ![0] bcast_S128_S128x1_0 (Host.reduceAdd (res_main_values V0) (constant S_ .f32 0x00000000#32) reducesTo_S128x2_S128_d1 h_S_))))) (V0 (Proc.devRef .tc main_arg0))

/-- THE REFERENCE'S FIRST RESULT at one entry. -/
theorem refOut_apply (V0 : RV) (t : Fin 128) (h : Fin 768) :
    refOut V0 (ix2 t h) = ∑ k : Fin 2, expert V0 t h (top (sm (lg V0 t)) k)
        * Ideal.div (sm (lg V0 t) (top (sm (lg V0 t)) k)) (∑ l : Fin 2, sm (lg V0 t) (top (sm (lg V0 t)) l)) + rx V0 (ix2 t h) := by
  unfold refOut
  rw [(calls_eq V0).2.1, (calls_eq V0).2.2]
  clean_types
  pointwise
  refine congrArg (· + rx V0 (ix2 t h)) (Finset.sum_congr rfl fun k _ => ?_)
  have hm := mask_one V0 t k
  have hc := call0_apply V0 t k
  rw [hm]
  have h39 := fun c => v39_apply V0 t k c
  have h36 := fun c => v36_apply V0 t k c
  have hv := fun k => values_apply V0 t k
  have gw := fun r h => gather_slab gather_S64x768x768_S128x2x1_S128x2x768x768_23_0_n_n_0_2_1768768 rfl rfl rfl rfl rfl rfl rfl (rw2 V0) (res_main_call0_v5 V0) t k r h _ hc
  have gb := fun r => gather_row gather_S64x768_S128x2x1_S128x2x768_2_0_n_n_0_2_1768 rfl rfl rfl rfl rfl rfl rfl (rb2 V0) (res_main_call0_v5 V0) t k r _ hc
  simp only [gw, gb, h39, h36, hv]
  rfl

end Cert.Match

end
-- ==== Proof.KernelRun.lean ====
module

public import proofs.«01_k».proof.Proof.Body
public import Idealize.ShloMosaic.Lib.Pipeline.TableIdle
public import Idealize.ShloMosaic.Lib.Claim

/-! # The kernel's run

The contents every buffer has before and after each grid point, the body's obligation at every point, and what the two
output arrays hold when the launch is over. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, lt_of_lt_of_eq (by decide) N_0.symm⟩

/-- The normalised rows the first point stores. -/
def tS (c : Dev nD) : Vec F S128x768 .f32 := k0_pay3 (iblk m c 0 pt0) (iblk m c 1 pt0)

/-- The combine weights the first point stores. -/
def cS (c : Dev nD) : Vec F S128x64 .f32 := comb (iblk m c 0 pt0) (iblk m c 1 pt0) (iblk m c 2 pt0) (iblk m c 3 pt0)

/-- The auxiliary loss the first point stores. -/
def aS (c : Dev nD) : Vec F S1x1 .f32 := auxv (iblk m c 0 pt0) (iblk m c 1 pt0) (iblk m c 2 pt0) (iblk m c 3 pt0)

/-- The number point `t` hands the body. -/
abbrev gno (t : Fin cfg0.N) : BitVec 32 := BitVec.ofNat 32 (grid0.coords t 0).val

/-- One step at point `t` over the output contents `o`. -/
def stepAt (c : Dev nD) (t : Fin cfg0.N) (o : Vec F S128x768 .f32) : Vec F S128x768 .f32 :=
  step (gno t) (tS m c) (cS m c) (k0_pay15 (F := F)) (iblk m c 4 t) (iblk m c 5 t) (iblk m c 6 t) (iblk m c 7 t) o

/-- The output after point `n`: the steps up to `n` over the input rows. -/
def outAt (c : Dev nD) : (n : ℕ) → n < cfg0.N → Vec F S128x768 .f32
  | 0, h => stepAt m c ⟨0, h⟩ (iblk m c 0 pt0)
  | n + 1, h => stepAt m c ⟨n + 1, h⟩ (outAt c n (Nat.lt_of_succ_lt h))

/-- After a point that is not the first, the output is one step over what the point before left. -/
theorem outAt_pos (c : Dev nD) (t : Fin cfg0.N) (h : t.val ≠ 0) :
    outAt m c t.val t.isLt = stepAt m c t (outAt m c (t.val - 1) (Nat.lt_of_le_of_lt (Nat.sub_le _ _) t.isLt)) := by
  obtain ⟨n, hn⟩ := t
  cases n with
  | zero => exact absurd rfl h
  | succ n => rfl

/-- The first point's test says the point is the first. -/
theorem hcond : ∀ t : Fin cfg0.N, k0_cond1 (grid0.coords t) = 1#1 ↔ t.val % 32 = 0 := fun t => by
  have ht := Nat.lt_of_lt_of_eq t.isLt N_0
  have e0 : (grid0.coords t 0).val = t.val / 1 % 32 := Pipeline.Grid.coords_val t 0 (by decide) rfl
  simp only [k0_cond1, e0]; word_cmp

/-- The staging buffer window 0 uses at point `t`. -/
abbrev mst0 (t : Fin cfg0.N) : Memref sig .tc .vmem S128x768 .f32 := win0_0.stage (cfg0.slots t 0)
/-- The staging buffer window 1 uses at point `t`. -/
abbrev mst1 (t : Fin cfg0.N) : Memref sig .tc .vmem S1x768 .f32 := win0_1.stage (cfg0.slots t 1)
/-- The staging buffer window 2 uses at point `t`. -/
abbrev mst2 (t : Fin cfg0.N) : Memref sig .tc .vmem S64x768 .f32 := win0_2.stage (cfg0.slots t 2)
/-- The staging buffer window 3 uses at point `t`. -/
abbrev mst3 (t : Fin cfg0.N) : Memref sig .tc .vmem S1x64 .f32 := win0_3.stage (cfg0.slots t 3)
/-- The staging buffer window 4 uses at point `t`. -/
abbrev mst4 (t : Fin cfg0.N) : Memref sig .tc .vmem S2x1536x768 .f32 := win0_4.stage (cfg0.slots t 4)
/-- The staging buffer window 5 uses at point `t`. -/
abbrev mst5 (t : Fin cfg0.N) : Memref sig .tc .vmem S2x1x1536 .f32 := win0_5.stage (cfg0.slots t 5)
/-- The staging buffer window 6 uses at point `t`. -/
abbrev mst6 (t : Fin cfg0.N) : Memref sig .tc .vmem S2x768x768 .f32 := win0_6.stage (cfg0.slots t 6)
/-- The staging buffer window 7 uses at point `t`. -/
abbrev mst7 (t : Fin cfg0.N) : Memref sig .tc .vmem S2x1x768 .f32 := win0_7.stage (cfg0.slots t 7)
/-- The staging buffer window 8 uses at point `t`. -/
abbrev mst8 (t : Fin cfg0.N) : Memref sig .tc .vmem S128x768 .f32 := win0_8.stage (cfg0.slots t 8)
/-- The staging buffer window 9 uses at point `t`. -/
abbrev mst9 (t : Fin cfg0.N) : Memref sig .tc .vmem S1x1 .f32 := win0_9.stage (cfg0.slots t 9)

/-- The three scratch buffers. -/
abbrev sc0 : Memref sig .tc .vmem S128x768 .f32 := Memref.whole cc0_scratch0
/-- The second scratch buffer. -/
abbrev sc1 : Memref sig .tc .vmem S128x64 .f32 := Memref.whole cc0_scratch1
/-- The third scratch buffer. -/
abbrev sc2 : Memref sig .tc .vmem S1536x768 .bf16 := Memref.whole cc0_scratch2

/-- The class's invariant with the scratch buffers one by one, each at some contents. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch after any point: the rows, the weights and the pairing matrix of the first point. -/
def PhiT (c : Dev nD) : sProp 𝕄 :=
  iprop(iprop(owns (c : Thread nD τ) sc0 fullShare (tS m c) ∗ owns (c : Thread nD τ) sc1 fullShare (cS m c) ∗ owns (c : Thread nD τ) sc2 fullShare (k0_pay15 (F := F))) ∗ (∃ r, prngReg c r))

/-- The invariant before position `n`: any scratch before the first point, the first point's afterwards. -/
def PhiS (c : Dev nD) : (n : ℕ) → n ≤ cfg0.N → sProp 𝕄
  | 0, _ => Pipeline.ΦA spec0 c
  | _ + 1, _ => PhiT m c

/-- Before the first point the invariant is the class's. -/
theorem PhiS_zero (c : Dev nD) (n : ℕ) (h : n ≤ cfg0.N) (hz : n = 0) : PhiS m c n h = Pipeline.ΦA spec0 c := by
  subst hz; rfl

/-- Before any later point the scratch is the first point's. -/
theorem PhiS_pos (c : Dev nD) (n : ℕ) (h : n ≤ cfg0.N) (hz : n ≠ 0) : PhiS m c n h = PhiT m c := by
  cases n with
  | zero => exact absurd rfl hz
  | succ n => rfl

/-- The pipeline's proof data: inputs keep their blocks, output 0 holds the steps so far, output 1 the auxiliary loss. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
    | ⟨9, _⟩ => aS m c
  Φ t := PhiS m c t.val (Nat.le_of_lt_succ t.isLt)
  q _ := fullShare
  owed _ := 0

/-- The arrays at the region's entry. -/
theorem A_eq (c : Dev nD) (w : Fin cfg0.W) : (dats m 0 c).A w = V m c (Pipeline.arrRef spec0 w) := by
  dsimp only [dats]

/-- The invariant at a point's start. -/
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 keeps its block. -/
theorem after_0 (c : Dev nD) (t : Fin cfg0.N) : (dats m 0 c).after 0 t = iblk m c 0 t := by dsimp only [dats]
/-- Window 1 keeps its block. -/
theorem after_1 (c : Dev nD) (t : Fin cfg0.N) : (dats m 0 c).after 1 t = iblk m c 1 t := by dsimp only [dats]
/-- Window 2 keeps its block. -/
theorem after_2 (c : Dev nD) (t : Fin cfg0.N) : (dats m 0 c).after 2 t = iblk m c 2 t := by dsimp only [dats]
/-- Window 3 keeps its block. -/
theorem after_3 (c : Dev nD) (t : Fin cfg0.N) : (dats m 0 c).after 3 t = iblk m c 3 t := by dsimp only [dats]
/-- Window 4 keeps its block. -/
theorem after_4 (c : Dev nD) (t : Fin cfg0.N) : (dats m 0 c).after 4 t = iblk m c 4 t := by dsimp only [dats]
/-- Window 5 keeps its block. -/
theorem after_5 (c : Dev nD) (t : Fin cfg0.N) : (dats m 0 c).after 5 t = iblk m c 5 t := by dsimp only [dats]
/-- Window 6 keeps its block. -/
theorem after_6 (c : Dev nD) (t : Fin cfg0.N) : (dats m 0 c).after 6 t = iblk m c 6 t := by dsimp only [dats]
/-- Window 7 keeps its block. -/
theorem after_7 (c : Dev nD) (t : Fin cfg0.N) : (dats m 0 c).after 7 t = iblk m c 7 t := by dsimp only [dats]
/-- Output 0 after point `t`. -/
theorem after_8 (c : Dev nD) (t : Fin cfg0.N) : (dats m 0 c).after 8 t = outAt m c t.val t.isLt := by dsimp only [dats]
/-- Output 1 after point `t`. -/
theorem after_9 (c : Dev nD) (t : Fin cfg0.N) : (dats m 0 c).after 9 t = aS m c := by dsimp only [dats]
/-- Window 0's buffer holds its block when the body runs. -/
theorem before_0 (c : Dev nD) (t : Fin cfg0.N) (d) : (dats m 0 c).before 0 t d = iblk m c 0 t :=
  before0_0_of m (dats m 0 c) (A_eq m c 0) (after_0 m c) t d
/-- Window 1's buffer holds its block when the body runs. -/
theorem before_1 (c : Dev nD) (t : Fin cfg0.N) (d) : (dats m 0 c).before 1 t d = iblk m c 1 t :=
  before0_1_of m (dats m 0 c) (A_eq m c 1) (after_1 m c) t d
/-- Window 2's buffer holds its block when the body runs. -/
theorem before_2 (c : Dev nD) (t : Fin cfg0.N) (d) : (dats m 0 c).before 2 t d = iblk m c 2 t :=
  before0_2_of m (dats m 0 c) (A_eq m c 2) (after_2 m c) t d
/-- Window 3's buffer holds its block when the body runs. -/
theorem before_3 (c : Dev nD) (t : Fin cfg0.N) (d) : (dats m 0 c).before 3 t d = iblk m c 3 t :=
  before0_3_of m (dats m 0 c) (A_eq m c 3) (after_3 m c) t d
/-- Window 4's buffer holds its block when the body runs. -/
theorem before_4 (c : Dev nD) (t : Fin cfg0.N) (d) : (dats m 0 c).before 4 t d = iblk m c 4 t :=
  before0_4_of m (dats m 0 c) (A_eq m c 4) (after_4 m c) t d
/-- Window 5's buffer holds its block when the body runs. -/
theorem before_5 (c : Dev nD) (t : Fin cfg0.N) (d) : (dats m 0 c).before 5 t d = iblk m c 5 t :=
  before0_5_of m (dats m 0 c) (A_eq m c 5) (after_5 m c) t d
/-- Window 6's buffer holds its block when the body runs. -/
theorem before_6 (c : Dev nD) (t : Fin cfg0.N) (d) : (dats m 0 c).before 6 t d = iblk m c 6 t :=
  before0_6_of m (dats m 0 c) (A_eq m c 6) (after_6 m c) t d
/-- Window 7's buffer holds its block when the body runs. -/
theorem before_7 (c : Dev nD) (t : Fin cfg0.N) (d) : (dats m 0 c).before 7 t d = iblk m c 7 t :=
  before0_7_of m (dats m 0 c) (A_eq m c 7) (after_7 m c) t d
/-- Past the first point, output 0's buffer holds what the point before left. -/
theorem before_8 (c : Dev nD) (t : Fin cfg0.N) (h0 : t.val ≠ 0) (d) :
    (dats m 0 c).before 8 t d = outAt m c (t.val - 1) (Nat.lt_of_le_of_lt (Nat.sub_le _ _) t.isLt) := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-- The first point stores output 1. -/
theorem idle9_first (t : Fin cfg0.N) (h0 : t.val = 0) : cfg0.idle 9 (grid0.coords t) = false := by
  show (!(k0_cond1 (grid0.coords t) == 1#1)) = false
  rw [(hcond t).mpr (by omega)]; rfl

/-- No other point stores output 1. -/
theorem idle9_later (t : Fin cfg0.N) (h0 : t.val ≠ 0) : cfg0.idle 9 (grid0.coords t) = true := by
  have hN : t.val < 32 := lt_of_lt_of_eq t.isLt (show cfg0.N = 32 from N_0)
  have h : ¬k0_cond1 (grid0.coords t) = 1#1 := fun h => by have := (hcond t).mp h; omega
  show (!(k0_cond1 (grid0.coords t) == 1#1)) = true
  rw [beq_false_of_ne h]; rfl

/-- Output 1's buffer holds nothing stored only before the first point. -/
theorem fresh9 : ∀ n, n ≤ cfg0.N → cfg0.fresh 9 n = (n == 0 || n == 32) :=
  cfg0.fresh_tab 9 (fun n => n == 0 || n == 32) rfl fun t => by
    have hN : t.val < 32 := lt_of_lt_of_eq t.isLt (show cfg0.N = 32 from N_0)
    by_cases h0 : t.val = 0
    · have hf : (cfg0.win 9).flush t = false := Bool.eq_false_iff.mpr fun h => by have := (flush0_9 t).mp h; omega
      have hi := idle9_first t h0
      show _ = ((cfg0.win 9).flush t || (cfg0.idle 9 (grid0.coords t) && _))
      rw [hf, hi, h0]; rfl
    · have hi := idle9_later t h0
      show _ = ((cfg0.win 9).flush t || (cfg0.idle 9 (grid0.coords t) && _))
      rw [hi]
      by_cases h1 : t.val = 31
      · rw [(flush0_9 t).mpr (by omega), h1]; rfl
      · have hf : (cfg0.win 9).flush t = false := Bool.eq_false_iff.mpr fun h => by have := (flush0_9 t).mp h; omega
        rw [hf, beq_false_of_ne (show t.val + 1 ≠ 0 by omega), beq_false_of_ne (show t.val + 1 ≠ 32 by omega),
          beq_false_of_ne h0, beq_false_of_ne (show t.val ≠ 32 by omega)]; rfl

/-- Past the first point, output 1's buffer holds the auxiliary loss. -/
theorem before_9 (c : Dev nD) (t : Fin cfg0.N) (h0 : t.val ≠ 0) (d) : (dats m 0 c).before 9 t d = aS m c := by
  have hN : t.val < 32 := lt_of_lt_of_eq t.isLt (show cfg0.N = 32 from N_0)
  rw [Dat.before_out_traj _ 9 rfl (fun _ _ => rfl) (fun t _ _ _ => (after_9 m c t).trans (after_9 m c _).symm) t.val t rfl d,
    fresh9 t.val (le_of_lt t.isLt), beq_false_of_ne h0, beq_false_of_ne (show t.val ≠ 32 by omega)]
  exact (if_neg Bool.false_ne_true).trans (after_9 m c _)

/-- Output 1's buffer after the first point. -/
theorem leaves9_first (c : Dev nD) (t : Fin cfg0.N) (h0 : t.val = 0) :
    (dats m 0 c).leavesExact 9 t = owns (c : Thread nD τ) (mst9 t) fullShare (aS m c) := by
  have hi : cfg0.idle 9 (cfg0.grid.coords t) = false := idle9_first t h0
  unfold Dat.leavesExact; rw [hi, ← after_9 m c t]

/-- Output 1's buffer after any later point: the auxiliary loss still. -/
theorem leaves9_later (c : Dev nD) (t : Fin cfg0.N) (h0 : t.val ≠ 0) :
    owns (c : Thread nD τ) (mst9 t) fullShare (aS m c) ⊢ (dats m 0 c).leavesExact 9 t := by
  have hi : cfg0.idle 9 (cfg0.grid.coords t) = true := idle9_later t h0
  unfold Dat.leavesExact; rw [hi]
  cases hf : (cfg0.win 9).flush t
  · show _ ⊢ iprop(∃ d, owns (c : Thread nD τ) (mst9 t) fullShare ((dats m 0 c).before 9 t d))
    iintro H
    iexists (aS m c)
    rw [before_9 m c t h0]
    iexact H
  · show _ ⊢ owns (c : Thread nD τ) (mst9 t) fullShare ((dats m 0 c).after 9 t)
    rw [after_9]

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (mst0 t) fullShare ((dats m 0 c).before 0 t d))
    ∗ (∃ d, owns (c : Thread nD τ) (mst1 t) fullShare ((dats m 0 c).before 1 t d))
    ∗ (∃ d, owns (c : Thread nD τ) (mst2 t) fullShare ((dats m 0 c).before 2 t d))
    ∗ (∃ d, owns (c : Thread nD τ) (mst3 t) fullShare ((dats m 0 c).before 3 t d))
    ∗ (∃ d, owns (c : Thread nD τ) (mst4 t) fullShare ((dats m 0 c).before 4 t d))
    ∗ (∃ d, owns (c : Thread nD τ) (mst5 t) fullShare ((dats m 0 c).before 5 t d))
    ∗ (∃ d, owns (c : Thread nD τ) (mst6 t) fullShare ((dats m 0 c).before 6 t d))
    ∗ (∃ d, owns (c : Thread nD τ) (mst7 t) fullShare ((dats m 0 c).before 7 t d))
    ∗ (∃ d, owns (c : Thread nD τ) (mst8 t) fullShare ((dats m 0 c).before 8 t d))
    ∗ (∃ d, owns (c : Thread nD τ) (mst9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (mst0 t) fullShare ((dats m 0 c).after 0 t)
    ∗ owns (c : Thread nD τ) (mst1 t) fullShare ((dats m 0 c).after 1 t)
    ∗ owns (c : Thread nD τ) (mst2 t) fullShare ((dats m 0 c).after 2 t)
    ∗ owns (c : Thread nD τ) (mst3 t) fullShare ((dats m 0 c).after 3 t)
    ∗ owns (c : Thread nD τ) (mst4 t) fullShare ((dats m 0 c).after 4 t)
    ∗ owns (c : Thread nD τ) (mst5 t) fullShare ((dats m 0 c).after 5 t)
    ∗ owns (c : Thread nD τ) (mst6 t) fullShare ((dats m 0 c).after 6 t)
    ∗ owns (c : Thread nD τ) (mst7 t) fullShare ((dats m 0 c).after 7 t)
    ∗ owns (c : Thread nD τ) (mst8 t) fullShare ((dats m 0 c).after 8 t)
    ∗ (dats m 0 c).leavesExact 9 t)

/-- At the first point the step's operands are those the scratch then holds. -/
theorem outAt_first (c : Dev nD) (t : Fin cfg0.N) (h : t.val = 0) :
    outAt m c t.val t.isLt = step (gno t) (k0_pay3 (iblk m c 0 t) (iblk m c 1 t))
      (comb (iblk m c 0 t) (iblk m c 1 t) (iblk m c 2 t) (iblk m c 3 t)) (k0_pay15 (F := F))
      (iblk m c 4 t) (iblk m c 5 t) (iblk m c 6 t) (iblk m c 7 t) (iblk m c 0 t) := by
  obtain rfl : t = pt0 := Fin.ext h
  rfl

/-- The scratch and the auxiliary loss as the first point spells them. -/
theorem first_eq (c : Dev nD) (t : Fin cfg0.N) (h : t.val = 0) :
    tS m c = k0_pay3 (iblk m c 0 t) (iblk m c 1 t)
      ∧ cS m c = comb (iblk m c 0 t) (iblk m c 1 t) (iblk m c 2 t) (iblk m c 3 t)
      ∧ aS m c = auxv (iblk m c 0 t) (iblk m c 1 t) (iblk m c 2 t) (iblk m c 3 t) := by
  obtain rfl : t = pt0 := Fin.ext h
  exact ⟨rfl, rfl, rfl⟩

set_option maxHeartbeats 2000000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) t.isLt from rfl, PhiS_pos m c _ _ (Nat.succ_ne_zero _)]
  have hN : t.val < 32 := lt_of_lt_of_eq t.isLt (show cfg0.N = 32 from N_0)
  unfold PhiT
  by_cases h0 : t.val = 0
  · obtain ⟨eT, eC, eA⟩ := first_eq m c t h0
    rw [Phi_castSucc m c t, PhiS_zero m c _ _ h0, PhiA_eq, leaves9_first m c t h0, outAt_first m c t h0, eT, eC, eA]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ _ _ _ _ _ _ ((hcond t).mpr (by omega)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi_castSucc m c t, PhiS_pos m c _ _ h0, outAt_pos m c t h0]
    simp only [before_8 m c t h0, before_9 m c t h0]
    unfold PhiT stepAt
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ _ _ _ _ _ _ (fun h => by have := (hcond t).mp h; omega) (iblk m c 0 t) (iblk m c 1 t) (iblk m c 2 t) (iblk m c 3 t) (iblk m c 4 t) (iblk m c 5 t) (iblk m c 6 t) (iblk m c 7 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves9_later m c t h0)
    iexact H9

/-- The body table's row at point `t` is the body at the point's buffers. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The launch hands the region the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch's contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = PhiS m c cfg0.N (le_refl _) from rfl, PhiS_pos m c _ _ (by omega), PhiA_eq]
  unfold PhiT
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: every run ends with each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
 ∧       r.2.mem ((c.tc : Thread nD τ).loc main_arg1) = m ((c.tc : Thread nD τ).loc main_arg1)
 ∧       r.2.mem ((c.tc : Thread nD τ).loc main_arg2) = m ((c.tc : Thread nD τ).loc main_arg2)
 ∧       r.2.mem ((c.tc : Thread nD τ).loc main_arg3) = m ((c.tc : Thread nD τ).loc main_arg3)
 ∧       r.2.mem ((c.tc : Thread nD τ).loc main_arg4) = m ((c.tc : Thread nD τ).loc main_arg4)
 ∧       r.2.mem ((c.tc : Thread nD τ).loc main_arg5) = m ((c.tc : Thread nD τ).loc main_arg5)
 ∧       r.2.mem ((c.tc : Thread nD τ).loc main_arg6) = m ((c.tc : Thread nD τ).loc main_arg6)
 ∧       r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

/-- The last point. -/
def ptL : Fin cfg0.N := ⟨31, lt_of_lt_of_eq (by decide) N_0.symm⟩

/-- Output 0's block is the whole array at every point. -/
theorem idx8 : ∀ t : Fin cfg0.N, win0_8.index t (0 : Fin 2) = 0 ∧ win0_8.index t (1 : Fin 2) = 0 :=
  (by decide +kernel : ∀ t : Fin grid0.N, _)

/-- What the last point writes back to output 0. -/
theorem flushed8 (c : Dev nD) (t : Fin cfg0.N) (hf : (cfg0.win 8).flush t = true) :
    (dats m 0 c).flushed 8 t = ((cfg0.win 8).blk t).view.read (Elt F) (outAt m c 31 ptL.isLt : Buf (Elt F) ((c : Thread nD τ).loc main_v4_0)) := by
  have hN : t.val < 32 := lt_of_lt_of_eq t.isLt (show cfg0.N = 32 from N_0)
  have hm : t.val % 32 = 31 := (flush0_8 t).mp hf
  obtain rfl : t = ptL := Fin.ext (show t.val = 31 by omega)
  show (cfg0.win 8).cut (grid0.coords ptL) ((dats m 0 c).after 8 ptL) = _
  rw [after_8]
  obtain ⟨e0, e1⟩ := idx8 ptL
  funext y
  have hb0 : (((cfg0.win 8).blk ptL).view.emb y 0).val = win0_8.index ptL (0 : Fin 2) * 128 + 1 * (y 0).val := rfl
  have hb1 : (((cfg0.win 8).blk ptL).view.emb y 1).val = win0_8.index ptL (1 : Fin 2) * 768 + 1 * (y 1).val := rfl
  have hl : ((cfg0.win 8).blk ptL).view.emb y = (cfg0.win 8).xinj (grid0.coords ptL) y := by
    funext a; apply Fin.ext
    match a with
    | ⟨0, _⟩ => show (((cfg0.win 8).blk ptL).view.emb y 0).val = (y 0).val; rw [hb0, e0]; omega
    | ⟨1, _⟩ => show (((cfg0.win 8).blk ptL).view.emb y 1).val = (y 1).val; rw [hb1, e1]; omega
  exact congrArg (outAt m c 31 ptL.isLt) hl.symm

/-- Every index of output 0 is in the block the last point writes back. -/
theorem cover8 (i : S128x768.Idx) : ∃ t : Fin cfg0.N, (cfg0.win 8).flush t = true ∧ i ∈ ((cfg0.win 8).blk t).view.set := by
  refine ⟨ptL, (flush0_8 ptL).mpr rfl, ?_⟩
  show i ∈ ((View.whole main_v4_0).slice (win0_8.rect ptL)).set
  rw [View.set_slice_whole, Rect.mem_set_unit]
  obtain ⟨e0, e1⟩ := idx8 ptL
  have h0 : (i 0).val < 128 := (i 0).isLt
  have h1 : (i 1).val < 768 := (i 1).isLt
  intro a
  match a with
  | ⟨0, _⟩ => show win0_8.index ptL (0 : Fin 2) * 128 ≤ (i 0).val ∧ (i 0).val < win0_8.index ptL (0 : Fin 2) * 128 + 128; omega
  | ⟨1, _⟩ => show win0_8.index ptL (1 : Fin 2) * 768 ≤ (i 1).val ∧ (i 1).val < win0_8.index ptL (1 : Fin 2) * 768 + 768; omega

/-- Output 0's array after the launch. -/
theorem final8 (c : Dev nD) : (dats m 0 c).arrAt 8 cfg0.N = outAt m c 31 ptL.isLt :=
  (dats m 0 c).arrAt_eq_of_cover 8 _ (fun t hf => flushed8 m c t hf) (fun i => cover8 i)

/-- Output 1's block is the whole array at every point. -/
theorem idx9 : ∀ t : Fin cfg0.N, win0_9.index t (0 : Fin 2) = 0 ∧ win0_9.index t (1 : Fin 2) = 0 :=
  (by decide +kernel : ∀ t : Fin grid0.N, _)

/-- What the last point writes back to output 1. -/
theorem flushed9 (c : Dev nD) (t : Fin cfg0.N) (hf : (cfg0.win 9).flush t = true) :
    (dats m 0 c).flushed 9 t = ((cfg0.win 9).blk t).view.read (Elt F) (aS m c : Buf (Elt F) ((c : Thread nD τ).loc main_v4_1)) := by
  have hN : t.val < 32 := lt_of_lt_of_eq t.isLt (show cfg0.N = 32 from N_0)
  have hm : t.val % 32 = 31 := (flush0_9 t).mp hf
  obtain rfl : t = ptL := Fin.ext (show t.val = 31 by omega)
  show (cfg0.win 9).cut (grid0.coords ptL) ((dats m 0 c).after 9 ptL) = _
  rw [after_9]
  obtain ⟨e0, e1⟩ := idx9 ptL
  funext y
  have hb0 : (((cfg0.win 9).blk ptL).view.emb y 0).val = win0_9.index ptL (0 : Fin 2) * 1 + 1 * (y 0).val := rfl
  have hb1 : (((cfg0.win 9).blk ptL).view.emb y 1).val = win0_9.index ptL (1 : Fin 2) * 1 + 1 * (y 1).val := rfl
  have hl : ((cfg0.win 9).blk ptL).view.emb y = (cfg0.win 9).xinj (grid0.coords ptL) y := by
    funext a; apply Fin.ext
    match a with
    | ⟨0, _⟩ => show (((cfg0.win 9).blk ptL).view.emb y 0).val = (y 0).val; rw [hb0, e0]; omega
    | ⟨1, _⟩ => show (((cfg0.win 9).blk ptL).view.emb y 1).val = (y 1).val; rw [hb1, e1]; omega
  exact congrArg (aS m c) hl.symm

/-- Every index of output 1 is in the block the last point writes back. -/
theorem cover9 (i : S1x1.Idx) : ∃ t : Fin cfg0.N, (cfg0.win 9).flush t = true ∧ i ∈ ((cfg0.win 9).blk t).view.set := by
  refine ⟨ptL, (flush0_9 ptL).mpr rfl, ?_⟩
  show i ∈ ((View.whole main_v4_1).slice (win0_9.rect ptL)).set
  rw [View.set_slice_whole, Rect.mem_set_unit]
  obtain ⟨e0, e1⟩ := idx9 ptL
  have h0 : (i 0).val < 1 := (i 0).isLt
  have h1 : (i 1).val < 1 := (i 1).isLt
  intro a
  match a with
  | ⟨0, _⟩ => show win0_9.index ptL (0 : Fin 2) * 1 ≤ (i 0).val ∧ (i 0).val < win0_9.index ptL (0 : Fin 2) * 1 + 1; omega
  | ⟨1, _⟩ => show win0_9.index ptL (1 : Fin 2) * 1 ≤ (i 1).val ∧ (i 1).val < win0_9.index ptL (1 : Fin 2) * 1 + 1; omega

/-- Output 1's array after the launch. -/
theorem final9 (c : Dev nD) : (dats m 0 c).arrAt 9 cfg0.N = aS m c :=
  (dats m 0 c).arrAt_eq_of_cover 9 _ (fun t hf => flushed9 m c t hf) (fun i => cover9 i)

/-- The run, read: the two results, and the arguments unchanged with every counter zero. -/
theorem run : θ_run defs (onTc (τ := τ) (main (F := F))) ⟨m, fun _ => 0, ρ⟩ (fun r =>
      (∀ c : Dev nD, r.2.mem ((c.tc : Thread nD τ).loc main_v4_0) = outAt m c 31 ptL.isLt
        ∧ r.2.mem ((c.tc : Thread nD τ).loc main_v4_1) = aS m c)) :=
  (θ_run defs _ _).mono (fun r h c => ⟨((h c).1 8).trans (final8 m c), ((h c).1 9).trans (final9 m c)⟩) (run_main m ρ)

end Cert.KernelIdeal.Hand

end
-- ==== Proof.Reads.lean ====
module

public import proofs.«01_k».proof.Proof.KernelRun
public import Idealize.ShloMosaic.Lib.Pipeline.ValueKit
public import Idealize.ShloMosaic.Lib.Pointwise

/-! # The blocks as reads of the arguments -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The blocks' index maps. -/
theorem idxs : ∀ t : Fin cfg0.N, win0_0.index t = ![0, 0] ∧ win0_1.index t = ![0, 0] ∧ win0_2.index t = ![0, 0] ∧ win0_3.index t = ![0, 0]
    ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Window 0's block, read. -/
theorem blk0 (c : Dev nD) (t : Fin cfg0.N) (y : S128x768.Idx) :
    iblk m c 0 t y = m ((c : Thread nD τ).loc main_arg0) (ix2 (y 0) (y 1)) := by
  obtain ⟨i0, i1, i2, i3, i4, i5, i6, i7⟩ := idxs t
  have hN : t.val < 32 := lt_of_lt_of_eq t.isLt (show cfg0.N = 32 from N_0)
  blk_ext [iblk, V, i0]

/-- Window 1's block, read. -/
theorem blk1 (c : Dev nD) (t : Fin cfg0.N) (y : S1x768.Idx) :
    iblk m c 1 t y = m ((c : Thread nD τ).loc main_arg1) (ix1 (y 1)) := by
  obtain ⟨i0, i1, i2, i3, i4, i5, i6, i7⟩ := idxs t
  have hN : t.val < 32 := lt_of_lt_of_eq t.isLt (show cfg0.N = 32 from N_0)
  blk_ext! [iblk, i1]

/-- Window 2's block, read. -/
theorem blk2 (c : Dev nD) (t : Fin cfg0.N) (y : S64x768.Idx) :
    iblk m c 2 t y = m ((c : Thread nD τ).loc main_arg2) (ix2 (y 0) (y 1)) := by
  obtain ⟨i0, i1, i2, i3, i4, i5, i6, i7⟩ := idxs t
  have hN : t.val < 32 := lt_of_lt_of_eq t.isLt (show cfg0.N = 32 from N_0)
  blk_ext [iblk, V, i2]

/-- Window 3's block, read. -/
theorem blk3 (c : Dev nD) (t : Fin cfg0.N) (y : S1x64.Idx) :
    iblk m c 3 t y = m ((c : Thread nD τ).loc main_arg3) (ix1 (y 1)) := by
  obtain ⟨i0, i1, i2, i3, i4, i5, i6, i7⟩ := idxs t
  have hN : t.val < 32 := lt_of_lt_of_eq t.isLt (show cfg0.N = 32 from N_0)
  blk_ext! [iblk, i3]

/-- Window 4's block, read. -/
theorem blk4 (c : Dev nD) (t : Fin cfg0.N) (y : S2x1536x768.Idx) :
    iblk m c 4 t y = m ((c : Thread nD τ).loc main_arg4) (ix3 ⟨2 * t.val + (y 0).val, by have h0 : (y 0).val < 2 := (y 0).isLt; have hN : t.val < 32 := lt_of_lt_of_eq t.isLt (show cfg0.N = 32 from N_0); omega⟩ (y 1) (y 2)) := by
  obtain ⟨i0, i1, i2, i3, i4, i5, i6, i7⟩ := idxs t
  have hN : t.val < 32 := lt_of_lt_of_eq t.isLt (show cfg0.N = 32 from N_0)
  blk_ext [iblk, V, i4]

/-- Window 5's block, read. -/
theorem blk5 (c : Dev nD) (t : Fin cfg0.N) (y : S2x1x1536.Idx) :
    iblk m c 5 t y = m ((c : Thread nD τ).loc main_arg5) (ix2 ⟨2 * t.val + (y 0).val, by have h0 : (y 0).val < 2 := (y 0).isLt; have hN : t.val < 32 := lt_of_lt_of_eq t.isLt (show cfg0.N = 32 from N_0); omega⟩ (y 2)) := by
  obtain ⟨i0, i1, i2, i3, i4, i5, i6, i7⟩ := idxs t
  have hN : t.val < 32 := lt_of_lt_of_eq t.isLt (show cfg0.N = 32 from N_0)
  blk_ext! [iblk, i5]

/-- Window 6's block, read. -/
theorem blk6 (c : Dev nD) (t : Fin cfg0.N) (y : S2x768x768.Idx) :
    iblk m c 6 t y = m ((c : Thread nD τ).loc main_arg6) (ix3 ⟨2 * t.val + (y 0).val, by have h0 : (y 0).val < 2 := (y 0).isLt; have hN : t.val < 32 := lt_of_lt_of_eq t.isLt (show cfg0.N = 32 from N_0); omega⟩ (y 1) (y 2)) := by
  obtain ⟨i0, i1, i2, i3, i4, i5, i6, i7⟩ := idxs t
  have hN : t.val < 32 := lt_of_lt_of_eq t.isLt (show cfg0.N = 32 from N_0)
  blk_ext [iblk, V, i6]

/-- Window 7's block, read. -/
theorem blk7 (c : Dev nD) (t : Fin cfg0.N) (y : S2x1x768.Idx) :
    iblk m c 7 t y = m ((c : Thread nD τ).loc main_arg7) (ix2 ⟨2 * t.val + (y 0).val, by have h0 : (y 0).val < 2 := (y 0).isLt; have hN : t.val < 32 := lt_of_lt_of_eq t.isLt (show cfg0.N = 32 from N_0); omega⟩ (y 2)) := by
  obtain ⟨i0, i1, i2, i3, i4, i5, i6, i7⟩ := idxs t
  have hN : t.val < 32 := lt_of_lt_of_eq t.isLt (show cfg0.N = 32 from N_0)
  blk_ext! [iblk, i7]

end Cert.KernelIdeal.Hand

end
-- ==== Proof.Step.lean ====
module

public import proofs.«01_k».proof.Proof.Body
public import proofs.«01_k».proof.Proof.RefOut
public import proofs.«01_k».proof.Proof.Reads
public import proofs.«01_k».proof.Proof.Gen.ReferenceIdeal.Run
public import Idealize.ShloMosaic.Lib.Pointwise
public import Idealize.ShloMosaic.Lib.Tactic.CleanTypes

/-! # One step of the kernel

What one grid point adds to an output entry. -/

@[expose] public section

set_option maxRecDepth 16384

noncomputable section

namespace Cert.Match

open Cert.KernelIdeal Cert.KernelIdeal.Gen Cert.KernelIdeal.Hand Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Halving a row number, as words. -/
theorem shr_half (r : Fin 1536) : IntOp.shrsi ArithUnit.vector (BitVec.ofNat 32 r.val) 1#32 = BitVec.ofNat 32 (r.val / 2) :=
  (by decide +kernel : ∀ r : Fin 1536, IntOp.shrsi ArithUnit.vector (BitVec.ofNat 32 r.val) 1#32 = BitVec.ofNat 32 (r.val / 2)) r

/-- The last bit of a column number, as a word. -/
theorem and_one (r : Fin 1536) : IntOp.andi (BitVec.ofNat 32 r.val) 1#32 = BitVec.ofNat 32 (r.val % 2) :=
  (by decide +kernel : ∀ r : Fin 1536, IntOp.andi (BitVec.ofNat 32 r.val) 1#32 = BitVec.ofNat 32 (r.val % 2)) r

/-- Small numbers are equal as words only when equal. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A truth value as a float is one or zero. -/
theorem truth (b : Bool) : (FloatOps.sitofp .f32 (BitVec.setWidth 32 (BitVec.ofBool b)) : Ideal .f32) = if b then 1 else 0 := by
  cases b
  · show ((((BitVec.setWidth 32 (BitVec.ofBool false)).toInt : ℝ)) : EReal) = 0
    have : (BitVec.setWidth 32 (BitVec.ofBool false)).toInt = 0 := by decide
    rw [this]; norm_num
  · show ((((BitVec.setWidth 32 (BitVec.ofBool true)).toInt : ℝ)) : EReal) = 1
    have : (BitVec.setWidth 32 (BitVec.ofBool true)).toInt = 1 := by decide
    rw [this]; norm_num

/-- The pairing matrix: one where the row's half is the column. -/
theorem pay15_apply (r : Fin 1536) (c : Fin 768) : (k0_pay15 (F := Ideal)) (ix2 r c) = if r.val / 2 = c.val then 1 else 0 := by
  unfold k0_pay15
  pointwise
  simp only [shr_half, IntOp.cmpi, truth, beq_iff_eq, word_inj (show r.val / 2 < 2 ^ 32 by omega) (show c.val < 2 ^ 32 by omega)]

/-- The mask of the even columns. -/
theorem pay18_apply (t : Fin 128) (r : Fin 1536) : k0_pay18 (ix2 t r) = BitVec.ofBool (decide (r.val % 2 = 0)) := by
  unfold k0_pay18
  pointwise
  simp only [and_one, IntOp.cmpi]
  congr 1
  rw [Bool.eq_iff_iff, beq_iff_eq, decide_eq_true_eq]
  exact word_inj (show r.val % 2 < 2 ^ 32 by omega) (by norm_num)

/-- A sum against the pairing matrix keeps the column's two rows. -/
theorem sum_pairs (f : Fin 1536 → EReal) (c : Fin 768) :
    ∑ r : Fin 1536, f r * (if r.val / 2 = c.val then 1 else 0) = f ⟨2 * c.val, by omega⟩ + f ⟨1 + 2 * c.val, by omega⟩ := by
  have hne : (⟨2 * c.val, by omega⟩ : Fin 1536) ≠ ⟨1 + 2 * c.val, by omega⟩ := fun h => by
    have := congrArg Fin.val h; simp only at this; omega
  rw [← Finset.sum_pair hne]
  simp only [mul_ite, mul_one, mul_zero]
  rw [← Finset.sum_filter]
  congr 1
  ext r
  simp only [Finset.mem_filter, Finset.mem_univ, true_and, Finset.mem_insert, Finset.mem_singleton, Fin.ext_iff]
  omega

/-- An entry of the activation before the pairs are added. -/
def half (V0 : RV) (t : Fin 128) (e : Fin 64) (r : Fin 1536) : EReal :=
  if r.val % 2 = 0 then gate (clip (lin V0 t e r)) else clip (lin V0 t e r) + 1

/-- The pairs of activation entries add up to the activation. -/
theorem half_pair (V0 : RV) (t : Fin 128) (e : Fin 64) (c : Fin 768) :
    half V0 t e ⟨2 * c.val, by omega⟩ + half V0 t e ⟨1 + 2 * c.val, by omega⟩ = act V0 t e c := by
  unfold half act
  rw [if_pos (show (2 * c.val) % 2 = 0 by omega), if_neg (show ¬(1 + 2 * c.val) % 2 = 0 by omega)]

variable {V0 : RV} {T : Vec Ideal S128x768 .f32}

/-- The linear layer with the factors the kernel's way round. -/
theorem lin_comm (hT : ∀ t h, T (ix2 t h) = v12 V0 (ix2 t h)) (e : Fin 64) {A : Vec Ideal S1x1536x768 .f32} {B : Vec Ideal S1x1x1536 .f32}
    (hA : ∀ r h, A (ix3 0 r h) = rw1 V0 (ix3 e r h)) (hB : ∀ r, B (ix3 0 0 r) = rb1 V0 (ix2 e r)) (t : Fin 128) (r : Fin 1536) :
    ∑ h, T (ix2 t h) * A (ix3 0 r h) + B (ix3 0 0 r) = lin V0 t e r := by
  rw [hB, lin]
  congr 1
  exact Finset.sum_congr rfl fun h _ => by rw [hT, hA, mul_comm]

/-- The first expert's activation, pairs added. -/
theorem pay20_apply (hT : ∀ t h, T (ix2 t h) = v12 V0 (ix2 t h)) (e : Fin 64) {A : Vec Ideal S1x1536x768 .f32} {B : Vec Ideal S1x1x1536 .f32}
    (hA : ∀ r h, A (ix3 0 r h) = rw1 V0 (ix3 e r h)) (hB : ∀ r, B (ix3 0 0 r) = rb1 V0 (ix2 e r)) (t : Fin 128) (c : Fin 768) :
    k0_pay20 (F := Ideal) T A B (k0_pay15 (F := Ideal)) (ix2 t c) = act V0 t e c := by
  rw [← half_pair, ← sum_pairs]
  unfold k0_pay20
  pointwise
  simp only [lin_comm hT e hA hB, pay15_apply, pay18_apply, Scalar.select_ofBool, decide_eq_true_eq]
  rfl

/-- The second expert's activation entries. -/
theorem pay23_apply (hT : ∀ t h, T (ix2 t h) = v12 V0 (ix2 t h)) (e : Fin 64) {A : Vec Ideal S1x1536x768 .f32} {B : Vec Ideal S1x1x1536 .f32}
    (hA : ∀ r h, A (ix3 0 r h) = rw1 V0 (ix3 e r h)) (hB : ∀ r, B (ix3 0 0 r) = rb1 V0 (ix2 e r)) (t : Fin 128) (r : Fin 1536) :
    k0_pay23 (F := Ideal) T k0_pay18 A B (ix2 t r) = half V0 t e r := by
  unfold k0_pay23
  pointwise
  simp only [lin_comm hT e hA hB, pay18_apply, Scalar.select_ofBool, decide_eq_true_eq]
  rfl

/-- The second layer's weights as a matrix. -/
theorem pay21_apply (x : Vec Ideal S1x768x768 .f32) (h c : Fin 768) : k0_pay21 (F := Ideal) x (ix2 h c) = x (ix3 0 h c) := by
  unfold k0_pay21
  pointwise

/-- Picking column `e` out of a row by comparing the column numbers keeps that entry. -/
theorem pick (f : Fin 64 → EReal) (e : Fin 64) :
    ∑ x : Fin 64, Scalar.select (IntOp.cmpi CmpIPredicate.eq (BitVec.ofNat 32 x.val) (BitVec.ofNat 32 e.val)) (f x) 0 = f e := by
  rw [Finset.sum_eq_single e]
  · simp only [IntOp.cmpi, beq_self_eq_true]; rfl
  · intro x _ hx
    have := beq_eq_false_iff_ne.mpr (mt pos_inj.mp hx)
    simp only [IntOp.cmpi, this]; rfl
  · exact fun h => absurd (Finset.mem_univ e) h

/-- The word the kernel compares with is the expert's number. -/
theorem expert_no (g : Fin 32) (s : Fin 2) :
    Scalar.addi (Scalar.muli (2#32) (BitVec.ofNat 32 g.val)) (BitVec.ofNat 32 s.val) = BitVec.ofNat 32 (2 * g.val + s.val) :=
  (by decide +kernel : ∀ (g : Fin 32) (s : Fin 2),
    Scalar.addi (Scalar.muli (2#32) (BitVec.ofNat 32 g.val)) (BitVec.ofNat 32 s.val) = BitVec.ofNat 32 (2 * g.val + s.val)) g s

/-- Expert `s` of point `g`. -/
def exn (g : Fin 32) (s : Fin 2) : Fin 64 := ⟨2 * g.val + s.val, by omega⟩

/-- ONE STEP at one entry: it adds the point's two experts, each times its combine weight. -/
theorem step_apply (g : Fin 32) (hT : ∀ t h, T (ix2 t h) = v12 V0 (ix2 t h)) (C : Vec Ideal S128x64 .f32)
    {x4 : Vec Ideal S2x1536x768 .f32} {x5 : Vec Ideal S2x1x1536 .f32} {x6 : Vec Ideal S2x768x768 .f32} {x7 : Vec Ideal S2x1x768 .f32}
    (h4 : ∀ s r h, x4 (ix3 s r h) = rw1 V0 (ix3 (exn g s) r h)) (h5 : ∀ s r, x5 (ix3 s 0 r) = rb1 V0 (ix2 (exn g s) r))
    (h6 : ∀ s h c, x6 (ix3 s h c) = rw2 V0 (ix3 (exn g s) h c)) (h7 : ∀ s h, x7 (ix3 s 0 h) = rb2 V0 (ix2 (exn g s) h))
    (o : Vec Ideal S128x768 .f32) (t : Fin 128) (h : Fin 768) :
    step (BitVec.ofNat 32 g.val) T C (k0_pay15 (F := Ideal)) x4 x5 x6 x7 o (ix2 t h)
      = o (ix2 t h) + (C (ix2 t (exn g 0)) * expert V0 t h (exn g 0) + C (ix2 t (exn g 1)) * expert V0 t h (exn g 1)) := by
  have n0 := expert_no g 0
  have n1 := expert_no g 1
  change _ = BitVec.ofNat 32 (exn g 0).val at n0
  change _ = BitVec.ofNat 32 (exn g 1).val at n1
  unfold step k0_pay1 k0_pay22 k0_pay19
  pointwise
  have e0 : ∀ c, k0_pay20 (F := Ideal) T (View.ld x4 (Rect.unit (s := S2x1536x768) ![0, 0, 0] S1x1536x768.size inb_S2x1536x768_S1x1536x768_0_0_0))
      (View.ld x5 (Rect.unit (s := S2x1x1536) ![0, 0, 0] S1x1x1536.size inb_S2x1x1536_S1x1x1536_0_0_0)) (k0_pay15 (F := Ideal)) (ix2 t c) = act V0 t (exn g 0) c := fun c =>
    pay20_apply hT (exn g 0) (fun r h => by pointwise; exact h4 0 r h) (fun r => by pointwise; exact h5 0 r) t c
  have e1 : ∀ r, k0_pay23 (F := Ideal) T k0_pay18 (View.ld x4 (Rect.unit (s := S2x1536x768) ![1, 0, 0] S1x1536x768.size inb_S2x1536x768_S1x1536x768_1_0_0))
      (View.ld x5 (Rect.unit (s := S2x1x1536) ![1, 0, 0] S1x1x1536.size inb_S2x1x1536_S1x1x1536_1_0_0)) (ix2 t r) = half V0 t (exn g 1) r := fun r =>
    pay23_apply hT (exn g 1) (fun r h => by pointwise; exact h4 1 r h) (fun r => by pointwise; exact h5 1 r) t r
  have w0 : ∀ c, k0_pay21 (F := Ideal) (View.ld x6 (Rect.unit (s := S2x768x768) ![0, 0, 0] S1x768x768.size inb_S2x768x768_S1x768x768_0_0_0)) (ix2 h c) = rw2 V0 (ix3 (exn g 0) h c) := fun c => by
    rw [pay21_apply]
    pointwise
    exact h6 0 h c
  simp only [e0, e1, w0, colNo_apply, pay15_apply, sum_pairs, half_pair, h6, h7]
  refine congrArg (o (ix2 t h) + ·) (congr (congrArg HAdd.hAdd ?_) ?_)
  · refine congr (congrArg HMul.hMul ?_) ?_
    · exact (congrArg (fun w => ∑ x : Fin 64, Scalar.select (IntOp.cmpi CmpIPredicate.eq (BitVec.ofNat 32 x.val) w) (C (ix2 t x)) 0) n0).trans (pick _ _)
    · rw [expert]
      exact congr (congrArg HAdd.hAdd (Finset.sum_congr rfl fun c _ => mul_comm _ _)) rfl
  · refine congr (congrArg HMul.hMul ?_) ?_
    · exact (congrArg (fun w => ∑ x : Fin 64, Scalar.select (IntOp.cmpi CmpIPredicate.eq (BitVec.ofNat 32 x.val) w) (C (ix2 t x)) 0) n1).trans (pick _ _)
    · rw [expert]
      exact congr (congrArg HAdd.hAdd (Finset.sum_congr rfl fun c _ => mul_comm _ _)) rfl
end Cert.Match

end
-- ==== Proof.RefAux.lean ====
module

public import proofs.«01_k».proof.Proof.RefTop
public import Idealize.ShloMosaic.Lib.ReduceAll
public import Idealize.ShloMosaic.Lib.Routing.OpsPair

/-! # The reference's second result

The auxiliary loss as the reference computes it: counts of the choices by addition at their positions, the mean
probabilities, and the deviation of the logits' column sums. -/

@[expose] public section

set_option maxRecDepth 16384

noncomputable section

namespace Cert.Match

open Cert.ReferenceIdeal Cert.ReferenceIdeal.Gen Cert.ReferenceIdeal.Value Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Adding one at every row's position word counts, at each position, the rows that name it. -/
theorem scatter_apply (idx : IVec S128x1 32) (f : Fin 128 → Fin 64) (hf : ∀ t, idx (ix2 t 0) = BitVec.ofNat 32 (f t).val) (e : Fin 64) :
    Host.scatterAdd scatter_S64_S128x1_S128_n_0_0_1
                      (broadcastInDim S64 ![] bcast_S_S64 (constant (F := Ideal) S_ FTy.f32 0#32)) idx
                      (broadcastInDim S128 ![] bcast_S_S128 (constant (F := Ideal) S_ FTy.f32 1065353216#32)) (ix1 e) = ∑ t, oh (f t) e := by
  have hl : ∀ t : Fin 128, scatter_S64_S128x1_S128_n_0_0_1.resultIdx? (ix1 t) idx = some (ix1 e) ↔ e = f t := by
    intro t
    have hi : scatter_S64_S128x1_S128_n_0_0_1.siIdx (ix1 t) ⟨0, by decide⟩ = ix2 t 0 := by
      funext b
      fin_cases b <;> rfl
    rw [Routing.resultIdx?_eq_some]
    have h0 : scatter_S64_S128x1_S128_n_0_0_1.start (ix1 t) idx 0 + (scatter_S64_S128x1_S128_n_0_0_1.window (ix1 t) 0 : Int) = ((f t).val : Int) := by
      show (idx (scatter_S64_S128x1_S128_n_0_0_1.siIdx (ix1 t) ⟨0, by decide⟩)).toInt + 0 = _
      rw [hi, hf, toInt_pos, add_zero]
    constructor
    · intro h
      have := (h 0).symm.trans h0
      exact Fin.ext (by exact_mod_cast this)
    · rintro rfl a
      fin_cases a
      exact h0
  show (broadcastInDim S64 ![] bcast_S_S64 (constant (F := Ideal) S_ FTy.f32 0#32)) (ix1 e) + (∑ j ∈ Finset.univ.filter (fun j : S128.Idx => scatter_S64_S128x1_S128_n_0_0_1.resultIdx? j idx = some (ix1 e)), (broadcastInDim S128 ![] bcast_S_S128 (constant (F := Ideal) S_ FTy.f32 1065353216#32)) j : EReal) = _
  have h1 : ∀ j, (broadcastInDim S128 ![] bcast_S_S128 (constant (F := Ideal) S_ FTy.f32 1065353216#32)) j = (1 : EReal) := fun j => Ideal.ofBits_one_f32
  have h0 : (broadcastInDim S64 ![] bcast_S_S64 (constant (F := Ideal) S_ FTy.f32 0#32)) (ix1 e) = (0 : EReal) := Ideal.ofBits_zero_f32
  rw [h0, zero_add]
  simp only [h1]
  rw [Finset.sum_filter]
  refine Fintype.sum_equiv (⟨fun j => j 0, fun t => ix1 t, fun j => by funext a; fin_cases a; rfl, fun t => rfl⟩ : S128.Idx ≃ Fin 128) _ _ fun j => ?_
  have hj : j = ix1 (j 0) := by funext a; fin_cases a; rfl
  show (if scatter_S64_S128x1_S128_n_0_0_1.resultIdx? j idx = some (ix1 e) then (1 : EReal) else 0) = oh (f (j 0)) e
  rw [hj]
  show (if scatter_S64_S128x1_S128_n_0_0_1.resultIdx? (ix1 (j 0)) idx = some (ix1 e) then (1 : EReal) else 0) = oh (f (j 0)) e
  unfold oh
  by_cases h : e = f (j 0)
  · rw [if_pos ((hl _).mpr h), if_pos h]
  · rw [if_neg (mt (hl _).mp h), if_neg h]

/-- The first choices' position words. -/
theorem v65_apply (V0 : RV) (t : Fin 128) : (res_main_v65 V0 : IVec S128 32) (ix1 t) = BitVec.ofNat 32 (top (sm (lg V0 t)) 0).val := by
  unfold res_main_v65
  clean_types
  pointwise
  exact indices_apply V0 t 0

/-- The second choices' position words. -/
theorem v79_apply (V0 : RV) (t : Fin 128) : (res_main_v79 V0 : IVec S128 32) (ix1 t) = BitVec.ofNat 32 (top (sm (lg V0 t)) 1).val := by
  unfold res_main_v79
  clean_types
  pointwise
  exact indices_apply V0 t 1

/-- Counting by position words that are wrapped first. -/
theorem count_apply (w : IVec S128 32) (f : Fin 128 → Fin 64) (hw : ∀ t, w (ix1 t) = BitVec.ofNat 32 (f t).val) (e : Fin 64) :
    Host.scatterAdd scatter_S64_S128x1_S128_n_0_0_1 (broadcastInDim S64 ![] bcast_S_S64 (constant (F := Ideal) S_ .f32 0x00000000#32))
      (broadcastInDim S128x1 ![0] bcast_S128_S128x1_0 (select (cmpi .slt w (broadcastInDim S128 ![] bcast_S_S128 (constantI S_ 32 0#32)))
        (addi w (broadcastInDim S128 ![] bcast_S_S128 (constantI S_ 32 64#32))) w))
      (broadcastInDim S128 ![] bcast_S_S128 (constant (F := Ideal) S_ .f32 0x3F800000#32)) (ix1 e) = ∑ t, oh (f t) e := by
  refine scatter_apply _ f (fun t => ?_) e
  pointwise
  rw [hw]
  exact wrap_pos _

/-- The logits' column sums. -/
theorem v96_apply (V0 : RV) (e : Fin 64) : (res_main_v96 V0 : FVec Ideal S64 .f32) (ix1 e) = imp V0 e := by
  unfold res_main_v96
  clean_types
  pointwise
  rfl

/-- The column sums less their mean. -/
theorem dev_apply (V0 : RV) (e : Fin 64) : (res_main_call6_call0_v5 V0 : FVec Ideal S64 .f32) (ix1 e) = imp V0 e - impMean V0 := by
  unfold res_main_call6_call0_v5
  clean_types
  pointwise
  have := fun e => v96_apply V0 e
  simp only [this]
  rfl

/-- The number the squared deviations are divided by. -/
theorem deg_apply (V0 : RV) : (res_main_call6_call0_v8 V0 : FVec Ideal S_ .f32) ix0 = ((63 : ℝ) : EReal) := by
  show Ideal.ofBits .f32 0x42800000#32 - ((((1#32 : BitVec 32).toInt : ℝ)) : EReal) = _
  have : (1#32 : BitVec 32).toInt = 1 := by decide
  rw [bits_64, this]
  norm_cast

/-- The deviation of the column sums over their mean. -/
theorem v101_apply (V0 : RV) : (res_main_v101 V0 : FVec Ideal S_ .f32) ix0 = cv V0 := by
  unfold res_main_v101
  clean_types
  pointwise
  have h1 := fun e => v96_apply V0 e
  have h2 := fun e => dev_apply V0 e
  have h3 := deg_apply V0
  simp only [h1, h2, h3]
  rw [if_pos (by norm_cast), cv, bits_63]
  rfl

/-- The reference's second result, of its arguments. -/
def refAux (V0 : RV) : FVec Ideal S1x1 .f32 :=
  shapeCast _ (mulf (constant S_ .f32 0x3F800000#32) (addf (mulf (constant S_ .f32 0x3F23D70A#32) (Host.reduceAdd (mulf (Host.divf (Host.reduceAdd (res_main_v28 V0) (constant S_ .f32 0x00000000#32) reducesTo_S128x64_S64_d0 h_S_) (broadcastInDim S64 ![] bcast_S_S64 (constant S_ .f32 0x43000000#32))) (Host.divf (mulf (broadcastInDim S64 ![] bcast_S_S64 (constant S_ .f32 0x40000000#32)) (addf (mulf (broadcastInDim S64 ![] bcast_S_S64 (constant S_ .f32 0x40000000#32)) (addf (broadcastInDim S64 ![] bcast_S_S64 (constant S_ .f32 0x00000000#32)) (Host.scatterAdd scatter_S64_S128x1_S128_n_0_0_1 (broadcastInDim S64 ![] bcast_S_S64 (constant S_ .f32 0x00000000#32)) (broadcastInDim S128x1 ![0] bcast_S128_S128x1_0 (select (cmpi .slt (res_main_v65 V0) (broadcastInDim S128 ![] bcast_S_S128 (constantI S_ 32 0#32))) (addi (res_main_v65 V0) (broadcastInDim S128 ![] bcast_S_S128 (constantI S_ 32 64#32))) (res_main_v65 V0))) (broadcastInDim S128 ![] bcast_S_S128 (constant S_ .f32 0x3F800000#32))))) (Host.scatterAdd scatter_S64_S128x1_S128_n_0_0_1 (broadcastInDim S64 ![] bcast_S_S64 (constant S_ .f32 0x00000000#32)) (broadcastInDim S128x1 ![0] bcast_S128_S128x1_0 (select (cmpi .slt (res_main_v79 V0) (broadcastInDim S128 ![] bcast_S_S128 (constantI S_ 32 0#32))) (addi (res_main_v79 V0) (broadcastInDim S128 ![] bcast_S_S128 (constantI S_ 32 64#32))) (res_main_v79 V0))) (broadcastInDim S128 ![] bcast_S_S128 (constant S_ .f32 0x3F800000#32))))) (broadcastInDim S64 ![] bcast_S_S64 (constant S_ .f32 0x43800000#32)))) (constant S_ .f32 0x00000000#32) reducesTo_S64_S_d0 h_S_)) (mulf (constant S_ .f32 0x3C23D70A#32) (mulf (res_main_v101 V0) (res_main_v101 V0))))) shapeCasts_S_S1x1

/-- THE REFERENCE'S SECOND RESULT is the auxiliary loss of the sort's two choices per row. -/
theorem refAux_apply (V0 : RV) : refAux V0 (ix2 0 0) = aux V0 (fun t => top (sm (lg V0 t)) 0) (fun t => top (sm (lg V0 t)) 1) := by
  unfold refAux
  clean_types
  pointwise
  have h1 := count_apply _ _ (v65_apply V0)
  have h2 := count_apply _ _ (v79_apply V0)
  have h3 := v101_apply V0
  have h4 := fun t e => v28_apply V0 t e
  simp only [h1, h2, h3, h4]
  rfl

end Cert.Match

end
-- ==== Proof.Final.lean ====
module

public import proofs.«01_k».proof.Proof.Step
public import proofs.«01_k».proof.Proof.RefAux
public import proofs.«01_k».proof.Proof.Reads
public import proofs.«01_k».proof.Proof.Gen.ReferenceIdeal.Run
public import Idealize.ShloMosaic.Lib.Pointwise
public import Idealize.ShloMosaic.Lib.Tactic.CleanTypes

/-! # The two programs' results agree

From memories that agree on the arguments, the kernel's output and auxiliary loss are the reference's. -/

@[expose] public section

set_option maxRecDepth 16384

noncomputable section

namespace Cert.Match

open Cert.KernelIdeal Cert.KernelIdeal.Gen Cert.KernelIdeal.Hand Cert.Top2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's memory and the reference's buffers hold the same arguments, entry by entry. -/
structure Agree (m : (ℓ : Loc nD τ sig) → Buf (Elt Ideal) ℓ) (c : Dev nD) (V0 : RV) : Prop where
  a0 : ∀ t h, m ((c : Thread nD τ).loc main_arg0) (ix2 t h) = rx V0 (ix2 t h)
  a1 : ∀ h, m ((c : Thread nD τ).loc main_arg1) (ix1 h) = rn V0 (ix1 h)
  a2 : ∀ e h, m ((c : Thread nD τ).loc main_arg2) (ix2 e h) = rwg V0 (ix2 e h)
  a3 : ∀ e, m ((c : Thread nD τ).loc main_arg3) (ix1 e) = rbg V0 (ix1 e)
  a4 : ∀ e r h, m ((c : Thread nD τ).loc main_arg4) (ix3 e r h) = rw1 V0 (ix3 e r h)
  a5 : ∀ e r, m ((c : Thread nD τ).loc main_arg5) (ix2 e r) = rb1 V0 (ix2 e r)
  a6 : ∀ e h c', m ((c : Thread nD τ).loc main_arg6) (ix3 e h c') = rw2 V0 (ix3 e h c')
  a7 : ∀ e h, m ((c : Thread nD τ).loc main_arg7) (ix2 e h) = rb2 V0 (ix2 e h)

variable {m : (ℓ : Loc nD τ sig) → Buf (Elt Ideal) ℓ} {c : Dev nD} {V0 : RV}

/-- The first point's blocks are the reference's arguments. -/
theorem Agree.same (ha : Agree m c V0) : Same (iblk m c 0 pt0) (iblk m c 1 pt0) (iblk m c 2 pt0) (iblk m c 3 pt0) V0 where
  h0 t h := (blk0 m c pt0 _).trans (ha.a0 t h)
  h1 h := (blk1 m c pt0 _).trans (ha.a1 h)
  h2 e h := (blk2 m c pt0 _).trans (ha.a2 e h)
  h3 e := (blk3 m c pt0 _).trans (ha.a3 e)

/-- The stored rows are the reference's normalised rows. -/
theorem Agree.rows (ha : Agree m c V0) (t : Fin 128) (h : Fin 768) : tS m c (ix2 t h) = v12 V0 (ix2 t h) := by
  rw [← pay2_apply ha.same]
  unfold tS k0_pay3
  pointwise

/-- The number handed to the body is the point's. -/
theorem gno_eq : ∀ t : Fin cfg0.N, (grid0.coords t 0).val = t.val := (by decide +kernel : ∀ t : Fin grid0.N, (grid0.coords t 0).val = t.val)

/-- A step of the grid at one entry. -/
theorem Agree.step (ha : Agree m c V0) (p : Fin cfg0.N) (hp : p.val < 32) (o : Vec Ideal S128x768 .f32) (t : Fin 128) (h : Fin 768) :
    stepAt m c p o (ix2 t h) = o (ix2 t h)
      + (cS m c (ix2 t (exn ⟨p.val, hp⟩ 0)) * expert V0 t h (exn ⟨p.val, hp⟩ 0) + cS m c (ix2 t (exn ⟨p.val, hp⟩ 1)) * expert V0 t h (exn ⟨p.val, hp⟩ 1)) := by
  unfold stepAt
  rw [show gno p = BitVec.ofNat 32 (⟨p.val, hp⟩ : Fin 32).val from congrArg (BitVec.ofNat 32) (gno_eq p)]
  exact step_apply ⟨p.val, hp⟩ ha.rows (cS m c) (fun s r k => (blk4 m c p _).trans (ha.a4 _ r k)) (fun s r => (blk5 m c p _).trans (ha.a5 _ r))
    (fun s k j => (blk6 m c p _).trans (ha.a6 _ k j)) (fun s k => (blk7 m c p _).trans (ha.a7 _ k)) o t h

/-- What expert number `e` adds to an output entry, zero past the last expert. -/
def part (m : (ℓ : Loc nD τ sig) → Buf (Elt Ideal) ℓ) (c : Dev nD) (V0 : RV) (t : Fin 128) (h : Fin 768) (e : ℕ) : EReal :=
  if he : e < 64 then cS m c (ix2 t ⟨e, he⟩) * expert V0 t h ⟨e, he⟩ else 0

/-- The output after point `n`: the input row and the first `2 (n + 1)` experts. -/
theorem Agree.out (ha : Agree m c V0) (t : Fin 128) (h : Fin 768) : ∀ (n : ℕ) (hn : n < cfg0.N),
    outAt m c n hn (ix2 t h) = rx V0 (ix2 t h) + ∑ e ∈ Finset.range (2 * (n + 1)), part m c V0 t h e
  | 0, hn => by
    have h0 : outAt m c 0 hn = stepAt m c ⟨0, hn⟩ (iblk m c 0 pt0) := rfl
    rw [h0, ha.step ⟨0, hn⟩ (by norm_num), ha.same.h0]
    simp only [Finset.sum_range_succ, Finset.sum_range_zero, zero_add, Nat.mul_one]
    rfl
  | n + 1, hn => by
    have hN : n + 1 < 32 := lt_of_lt_of_eq hn (show cfg0.N = 32 from N_0)
    have hs : outAt m c (n + 1) hn = stepAt m c ⟨n + 1, hn⟩ (outAt m c n (Nat.lt_of_succ_lt hn)) := rfl
    rw [hs, ha.step ⟨n + 1, hn⟩ hN, Agree.out ha t h n, show 2 * (n + 1 + 1) = 2 * (n + 1) + 1 + 1 by ring, Finset.sum_range_succ, Finset.sum_range_succ,
      add_assoc, add_assoc]
    congr 2
    unfold part
    rw [dif_pos (show 2 * (n + 1) < 64 by omega), dif_pos (show 2 * (n + 1) + 1 < 64 by omega)]
    rfl

/-- THE FIRST RESULT: the kernel's output is the reference's. -/
theorem Agree.result (ha : Agree m c V0) : outAt m c 31 ptL.isLt = refOut V0 := by
  funext y
  obtain ⟨t, h, rfl⟩ : ∃ (t : Fin 128) (h : Fin 768), y = ix2 t h := ⟨y 0, y 1, eq_ix2 y⟩
  refine (ha.out t h 31 ptL.isLt).trans ?_
  rw [refOut_apply, add_comm]
  congr 1
  refine Eq.trans ?_ (combine (sm (lg V0 t)) (sm_cases _) (fst_spec _) (snd_spec _) (fun e => expert V0 t h e))
  rw [Finset.sum_range]
  refine Finset.sum_congr rfl fun e _ => ?_
  unfold part
  rw [dif_pos e.isLt]
  exact congrArg (· * expert V0 t h e) (comb_apply ha.same t e)

/-- THE SECOND RESULT: the kernel's auxiliary loss is the reference's. -/
theorem Agree.loss (ha : Agree m c V0) : aS m c = refAux V0 := by
  funext y
  obtain ⟨i, j, rfl⟩ : ∃ i j : Fin 1, y = ix2 i j := ⟨y 0, y 1, eq_ix2 y⟩
  rw [Subsingleton.elim i 0, Subsingleton.elim j 0, refAux_apply]
  refine (auxv_apply ha.same).trans ?_
  unfold aux
  exact congrArg (fun v => Ideal.ofBits .f32 0x3F23D70A#32 * v + Ideal.ofBits .f32 0x3C23D70A#32 * (cv V0 * cv V0))
    (lb_eq (fun t => sm (lg V0 t)) (fun t => sm_cases _) _ _ (fun t => fst_spec _) (fun t => snd_spec _))

end Cert.Match

end
-- ==== Proof.Same.lean ====
module

public import proofs.«01_k».proof.Defs
public import proofs.«01_k».proof.Proof.Gen.Kernel
public import proofs.«01_k».proof.Proof.KernelRun

/-! # The kernel's frame

The kernel and its ideal form are one text, so what is proved of the ideal form for all float values holds of the kernel. -/

@[expose] public section

set_option maxRecDepth 65536

noncomputable section

namespace Cert.Proof

open Idealize.ShloMosaic Idealize.SL.Sem

local instance : Cert.Kernel.Facts := Cert.Kernel.Gen.facts
local instance : Cert.KernelIdeal.Facts := Cert.KernelIdeal.Gen.facts

/-- The two host programs are the same. -/
theorem main_same : Cert.Kernel.main (F := Bits) = Cert.KernelIdeal.main := rfl

/-- The two bodies are the same. -/
theorem body_same : Cert.Kernel.cc0__moe_body (F := Bits) = Cert.KernelIdeal.cc0__moe_body := rfl

/-- The two tables of bodies are the same. -/
theorem bodies_same : Cert.Kernel.defs₀ (F := Bits) = Cert.KernelIdeal.defs₀ := by
  unfold Cert.Kernel.defs₀ Cert.KernelIdeal.defs₀
  refine congrArg Defs.onTc ?_
  funext l a
  match l, a with
  | 0, (t, s) => rfl

/-- The two tables of everything a program calls are the same. -/
theorem defs_same : Cert.Kernel.defs (F := Bits) = Cert.KernelIdeal.defs :=
  congrArg (Pipeline.defs (Cert.Kernel.pcfgs (F := Bits))) bodies_same

/-- THE KERNEL'S FRAME: it runs, its arguments end unchanged and every counter ends at zero. -/
theorem frame_kernel : Cert.quiescent_Kernel := fun m ρ _ => by
  rw [defs_same, main_same]
  exact Cert.KernelIdeal.Hand.frame (F := Bits) m ρ

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Same
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Memories that agree on the arguments give buffers that agree entry by entry. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Match.Agree m c (StableHlo.launchContents m' c) where
  a0 t h := (congrFun h0 (ix2 t h)).symm
  a1 h := (congrFun h1 (ix1 h)).symm
  a2 e h := (congrFun h2 (ix2 e h)).symm
  a3 e := (congrFun h3 (ix1 e)).symm
  a4 e r h := (congrFun h4 (ix3 e r h)).symm
  a5 e r := (congrFun h5 (ix2 e r)).symm
  a6 e h k := (congrFun h6 (ix3 e h k)).symm
  a7 e h := (congrFun h7 (ix2 e h)).symm

/-- The two programs, over exact numbers, run and end with equal results. -/
theorem algebraic : Cert.algebraic_KernelIdeal_ReferenceIdeal := fun m ρ m' ρ' _ hag =>
  have ha (c : Dev Cert.KernelIdeal.nD) : Cert.Match.Agree m c (StableHlo.launchContents m' c) :=
    let ⟨h0, h1, h2, h3, h4, h5, h6, h7⟩ := hag c
    agree m m' c h0 h1 h2 h3 h4 h5 h6 h7
  ⟨fun c => Cert.KernelIdeal.Hand.outAt m c 31 Cert.KernelIdeal.Hand.ptL.isLt, fun c => Cert.KernelIdeal.Hand.aS m c,
    (θ_run Cert.KernelIdeal.defs _ _).mono (fun _ h c => ⟨(h.1 c).1, (h.1 c).2, h.2.1 c⟩)
      (θ_run_and (Cert.KernelIdeal.Hand.run (F := Ideal) m ρ) (Cert.KernelIdeal.Hand.frame (F := Ideal) m ρ)),
    (θ_run Cert.ReferenceIdeal.defs _ _).mono
      (fun _ h c => ⟨(h c).1.trans (ha c).result.symm, (h c).2.1.trans (ha c).loss.symm, (h c).2.2⟩)
      (Cert.ReferenceIdeal.Value.run (F := Ideal) m' ρ')⟩

/-- The reference runs, ends with its arguments unchanged, and has no counters to leave nonzero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- ALL THE CLAIMS: the three programs' frames, the ideal form of the kernel, and the equality of the results. -/
theorem claim : Cert.Claim := ⟨Cert.Kernel.Gen.facts, Cert.KernelIdeal.Gen.facts, Cert.ReferenceIdeal.Gen.facts,
  frame_kernel, fun m ρ _ => Cert.KernelIdeal.Hand.frame (F := Ideal) m ρ, frame_reference, trivial, algebraic⟩

end Cert.Proof

end
